-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.2.2.1 = (fun _ => 1#1)
    ∧ (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.2.2.1 = (fun _ => 1#1)
    ∧ (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S8x2048x3 : Shape := ⟨3, ![8, 2048, 3]⟩
abbrev S128 : Shape := ⟨1, ![128]⟩
abbrev S3x128 : Shape := ⟨2, ![3, 128]⟩
abbrev S128x128 : Shape := ⟨2, ![128, 128]⟩
abbrev S131x128 : Shape := ⟨2, ![131, 128]⟩
abbrev S128x3 : Shape := ⟨2, ![128, 3]⟩
abbrev S3 : Shape := ⟨1, ![3]⟩
abbrev S_ : Shape := ⟨0, ![]⟩
abbrev S128x1 : Shape := ⟨2, ![128, 1]⟩
abbrev S8x128x3 : Shape := ⟨3, ![8, 128, 3]⟩
abbrev S8x128 : Shape := ⟨2, ![8, 128]⟩
abbrev S8x128x1 : Shape := ⟨3, ![8, 128, 1]⟩
abbrev S8x2048 : Shape := ⟨2, ![8, 2048]⟩
abbrev S8x1x2048 : Shape := ⟨3, ![8, 1, 2048]⟩
abbrev S8x128x2048 : Shape := ⟨3, ![8, 128, 2048]⟩
abbrev S8x128x32 : Shape := ⟨3, ![8, 128, 32]⟩
abbrev S8x128x32x1 : Shape := ⟨4, ![8, 128, 32, 1]⟩
abbrev S8x128x32x3 : Shape := ⟨4, ![8, 128, 32, 3]⟩
abbrev S1024x32x3 : Shape := ⟨3, ![1024, 32, 3]⟩
abbrev S8x1x2048x3 : Shape := ⟨4, ![8, 1, 2048, 3]⟩
abbrev S8x128x2048x3 : Shape := ⟨4, ![8, 128, 2048, 3]⟩
abbrev S1024x2048x3 : Shape := ⟨3, ![1024, 2048, 3]⟩
abbrev S1024x32 : Shape := ⟨2, ![1024, 32]⟩
abbrev S1024x32x1 : Shape := ⟨3, ![1024, 32, 1]⟩
abbrev S1024x2048 : Shape := ⟨2, ![1024, 2048]⟩
abbrev S1024x1x2048 : Shape := ⟨3, ![1024, 1, 2048]⟩
abbrev S1024x32x2048 : Shape := ⟨3, ![1024, 32, 2048]⟩
abbrev S1024x32x4 : Shape := ⟨3, ![1024, 32, 4]⟩
abbrev S1024x32x4x1 : Shape := ⟨4, ![1024, 32, 4, 1]⟩
abbrev S1024x32x4x3 : Shape := ⟨4, ![1024, 32, 4, 3]⟩
abbrev S8x128x32x2048 : Shape := ⟨4, ![8, 128, 32, 2048]⟩
abbrev S8x128x1x2048 : Shape := ⟨4, ![8, 128, 1, 2048]⟩
abbrev S1024x32x4x2048 : Shape := ⟨4, ![1024, 32, 4, 2048]⟩
abbrev S1024x32x1x2048 : Shape := ⟨4, ![1024, 32, 1, 2048]⟩

class Facts : Prop where
  bcast_S_S8x2048x3 : S_.BroadcastsInDim S8x2048x3 (![] : Fin 0 → Fin S8x2048x3.rank)
  bcast_S_S3x128 : S_.BroadcastsInDim S3x128 (![] : Fin 0 → Fin S3x128.rank)
  bcast_S_S128 : S_.BroadcastsInDim S128 (![] : Fin 0 → Fin S128.rank)
  bcast_S_S128x128 : S_.BroadcastsInDim S128x128 (![] : Fin 0 → Fin S128x128.rank)
  bcast_S_S131x128 : S_.BroadcastsInDim S131x128 (![] : Fin 0 → Fin S131x128.rank)
  bcast_S_S128x3 : S_.BroadcastsInDim S128x3 (![] : Fin 0 → Fin S128x3.rank)
  bcast_S_S3 : S_.BroadcastsInDim S3 (![] : Fin 0 → Fin S3.rank)
  bcast_S128_S128x1_0 : S128.BroadcastsInDim S128x1 (![0] : Fin 1 → Fin S128x1.rank)
  reducesTo_S8x128x3_S8x128_d2 : S8x128x3.ReducesTo [2] S8x128
  h_S_ : 0 < S_.numel
  bcast_S8x128_S8x128x1_0_1 : S8x128.BroadcastsInDim S8x128x1 (![0, 1] : Fin 2 → Fin S8x128x1.rank)
  reducesTo_S8x2048x3_S8x2048_d2 : S8x2048x3.ReducesTo [2] S8x2048
  bcast_S8x2048_S8x1x2048_0_2 : S8x2048.BroadcastsInDim S8x1x2048 (![0, 2] : Fin 2 → Fin S8x1x2048.rank)
  bcast_S8x128x1_S8x128x2048_0_1_2 : S8x128x1.BroadcastsInDim S8x128x2048 (![0, 1, 2] : Fin 3 → Fin S8x128x2048.rank)
  bcast_S8x1x2048_S8x128x2048_0_1_2 : S8x1x2048.BroadcastsInDim S8x128x2048 (![0, 1, 2] : Fin 3 → Fin S8x128x2048.rank)
  bcast_S_S8x128x2048 : S_.BroadcastsInDim S8x128x2048 (![] : Fin 0 → Fin S8x128x2048.rank)
  sliceFits_S8x128x2048_S8x128x32 : S8x128x2048.Slices (fun _ => 0) S8x128x32
  bcast_S_S8x128x32 : S_.BroadcastsInDim S8x128x32 (![] : Fin 0 → Fin S8x128x32.rank)
  bcast_S8x128x32_S8x128x32x1_0_1_2 : S8x128x32.BroadcastsInDim S8x128x32x1 (![0, 1, 2] : Fin 3 → Fin S8x128x32x1.rank)
  shapeCasts_S8x128x32x3_S1024x32x3 : S8x128x32x3.ShapeCasts S1024x32x3
  bcast_S8x2048x3_S8x1x2048x3_0_2_3 : S8x2048x3.BroadcastsInDim S8x1x2048x3 (![0, 2, 3] : Fin 3 → Fin S8x1x2048x3.rank)
  bcast_S8x1x2048x3_S8x128x2048x3_0_1_2_3 : S8x1x2048x3.BroadcastsInDim S8x128x2048x3 (![0, 1, 2, 3] : Fin 4 → Fin S8x128x2048x3.rank)
  shapeCasts_S8x128x2048x3_S1024x2048x3 : S8x128x2048x3.ShapeCasts S1024x2048x3
  reducesTo_S1024x32x3_S1024x32_d2 : S1024x32x3.ReducesTo [2] S1024x32
  bcast_S1024x32_S1024x32x1_0_1 : S1024x32.BroadcastsInDim S1024x32x1 (![0, 1] : Fin 2 → Fin S1024x32x1.rank)
  reducesTo_S1024x2048x3_S1024x2048_d2 : S1024x2048x3.ReducesTo [2] S1024x2048
  bcast_S1024x2048_S1024x1x2048_0_2 : S1024x2048.BroadcastsInDim S1024x1x2048 (![0, 2] : Fin 2 → Fin S1024x1x2048.rank)
  bcast_S1024x32x1_S1024x32x2048_0_1_2 : S1024x32x1.BroadcastsInDim S1024x32x2048 (![0, 1, 2] : Fin 3 → Fin S1024x32x2048.rank)
  bcast_S1024x1x2048_S1024x32x2048_0_1_2 : S1024x1x2048.BroadcastsInDim S1024x32x2048 (![0, 1, 2] : Fin 3 → Fin S1024x32x2048.rank)
  bcast_S_S1024x32x2048 : S_.BroadcastsInDim S1024x32x2048 (![] : Fin 0 → Fin S1024x32x2048.rank)
  sliceFits_S1024x32x2048_S1024x32x4 : S1024x32x2048.Slices (fun _ => 0) S1024x32x4
  bcast_S_S1024x32x4 : S_.BroadcastsInDim S1024x32x4 (![] : Fin 0 → Fin S1024x32x4.rank)
  bcast_S1024x32x4_S1024x32x4x1_0_1_2 : S1024x32x4.BroadcastsInDim S1024x32x4x1 (![0, 1, 2] : Fin 3 → Fin S1024x32x4x1.rank)
  bcast_S8x128x2048_S8x128x1x2048_0_1_3 : S8x128x2048.BroadcastsInDim S8x128x1x2048 (![0, 1, 3] : Fin 3 → Fin S8x128x1x2048.rank)
  bcast_S8x128x1x2048_S8x128x32x2048_0_1_2_3 : S8x128x1x2048.BroadcastsInDim S8x128x32x2048 (![0, 1, 2, 3] : Fin 4 → Fin S8x128x32x2048.rank)
  bcast_S8x128x32x1_S8x128x32x2048_0_1_2_3 : S8x128x32x1.BroadcastsInDim S8x128x32x2048 (![0, 1, 2, 3] : Fin 4 → Fin S8x128x32x2048.rank)
  bcast_S1024x32x2048_S1024x32x1x2048_0_1_3 : S1024x32x2048.BroadcastsInDim S1024x32x1x2048 (![0, 1, 3] : Fin 3 → Fin S1024x32x1x2048.rank)
  bcast_S1024x32x1x2048_S1024x32x4x2048_0_1_2_3 : S1024x32x1x2048.BroadcastsInDim S1024x32x4x2048 (![0, 1, 2, 3] : Fin 4 → Fin S1024x32x4x2048.rank)
  bcast_S1024x32x4x1_S1024x32x4x2048_0_1_2_3 : S1024x32x4x1.BroadcastsInDim S1024x32x4x2048 (![0, 1, 2, 3] : Fin 4 → Fin S1024x32x4x2048.rank)
  gather_S8x2048x3_S128x1_S8x128x3_02_1_n_n_1_1_813_wf : GatherDims.WF S8x2048x3 S128x1 S8x128x3 [0, 2] [1] [] [1] [] 1 ![8, 1, 3]
  dot_S8x128x3_S8x2048x3_S8x128x2048_2_2_1_1_0_0_wf : DotDims.WF S8x128x3 S8x2048x3 S8x128x2048 [2] [2] [1] [1] [0] [0]
  gather_S8x2048x3_S8x128x32x1_S8x128x32x3_3_1_0_0_1_3_113_wf : GatherDims.WF S8x2048x3 S8x128x32x1 S8x128x32x3 [3] [1] [0] [1] [0] 3 ![1, 1, 3]
  dot_S1024x32x3_S1024x2048x3_S1024x32x2048_2_2_1_1_0_0_wf : DotDims.WF S1024x32x3 S1024x2048x3 S1024x32x2048 [2] [2] [1] [1] [0] [0]
  gather_S1024x2048x3_S1024x32x4x1_S1024x32x4x3_3_1_0_0_1_3_113_wf : GatherDims.WF S1024x2048x3 S1024x32x4x1 S1024x32x4x3 [3] [1] [0] [1] [0] 3 ![1, 1, 3]

variable [Facts]

def gather_S8x2048x3_S128x1_S8x128x3_02_1_n_n_1_1_813 : GatherDims S8x2048x3 S128x1 S8x128x3 where
  offsetDims := [0, 2]
  collapsedSliceDims := [1]
  operandBatchingDims := []
  startIndicesBatchingDims := []
  startIndexMap := [1]
  indexVectorDim := 1
  sliceSizes := ![8, 1, 3]
  wf := gather_S8x2048x3_S128x1_S8x128x3_02_1_n_n_1_1_813_wf
def dot_S8x128x3_S8x2048x3_S8x128x2048_2_2_1_1_0_0 : DotDims S8x128x3 S8x2048x3 S8x128x2048 where
  lhsContracting := [2]
  rhsContracting := [2]
  lhsNonContracting := [1]
  rhsNonContracting := [1]
  lhsBatch := [0]
  rhsBatch := [0]
  wf := dot_S8x128x3_S8x2048x3_S8x128x2048_2_2_1_1_0_0_wf
def gather_S8x2048x3_S8x128x32x1_S8x128x32x3_3_1_0_0_1_3_113 : GatherDims S8x2048x3 S8x128x32x1 S8x128x32x3 where
  offsetDims := [3]
  collapsedSliceDims := [1]
  operandBatchingDims := [0]
  startIndicesBatchingDims := [0]
  startIndexMap := [1]
  indexVectorDim := 3
  sliceSizes := ![1, 1, 3]
  wf := gather_S8x2048x3_S8x128x32x1_S8x128x32x3_3_1_0_0_1_3_113_wf
def dot_S1024x32x3_S1024x2048x3_S1024x32x2048_2_2_1_1_0_0 : DotDims S1024x32x3 S1024x2048x3 S1024x32x2048 where
  lhsContracting := [2]
  rhsContracting := [2]
  lhsNonContracting := [1]
  rhsNonContracting := [1]
  lhsBatch := [0]
  rhsBatch := [0]
  wf := dot_S1024x32x3_S1024x2048x3_S1024x32x2048_2_2_1_1_0_0_wf
def gather_S1024x2048x3_S1024x32x4x1_S1024x32x4x3_3_1_0_0_1_3_113 : GatherDims S1024x2048x3 S1024x32x4x1 S1024x32x4x3 where
  offsetDims := [3]
  collapsedSliceDims := [1]
  operandBatchingDims := [0]
  startIndicesBatchingDims := [0]
  startIndexMap := [1]
  indexVectorDim := 3
  sliceSizes := ![1, 1, 3]
  wf := gather_S1024x2048x3_S1024x32x4x1_S1024x32x4x3_3_1_0_0_1_3_113_wf
def fn_part7 {F : FTy → Type} [FloatOps F] (main_v2 : IVec S8x2048x3 1) (main_v5 : IVec S8x2048x3 1) (main_v8 : IVec S3x128 1) (main_v11 : IVec S128 1) (main_v14 : IVec S128x128 1) (main_v17 : IVec S128 1) (main_v20 : IVec S131x128 1) (main_v23 : IVec S128 1) (main_v26 : IVec S128x128 1) (main_v29 : IVec S128 1) (main_v32 : IVec S128x3 1) (main_v35 : IVec S3 1) (main_v40 : IVec S128 1) (main_indices_23 : IVec S1024x32x4 32) (main_v95 : FVec F S1024x32x4 .f32) (main_v118 : IVec S8x128x32x2048 1) (main_v131 : FVec F S1024x32x2048 .f32) : IVec S8x2048x3 1 × IVec S8x2048x3 1 × IVec S3x128 1 × IVec S128 1 × IVec S128x128 1 × IVec S128 1 × IVec S131x128 1 × IVec S128 1 × IVec S128x128 1 × IVec S128 1 × IVec S128x3 1 × IVec S3 1 × IVec S128 1 × IVec S8x128x32x2048 1 × IVec S1024x32x4x2048 1 :=
  let main_v132 : IVec S1024x32x4x2048 32 := iotaInDim S1024x32x4x2048 32 3
  let main_v133 : FVec F S1024x32x1x2048 .f32 := broadcastInDim S1024x32x1x2048 ![0, 1, 3] bcast_S1024x32x2048_S1024x32x1x2048_0_1_3 main_v131
  let main_v134 : FVec F S1024x32x4x1 .f32 := broadcastInDim S1024x32x4x1 ![0, 1, 2] bcast_S1024x32x4_S1024x32x4x1_0_1_2 main_v95
  let main_v135 : FVec F S1024x32x4x2048 .f32 := broadcastInDim S1024x32x4x2048 ![0, 1, 2, 3] bcast_S1024x32x1x2048_S1024x32x4x2048_0_1_2_3 main_v133
  let main_v136 : FVec F S1024x32x4x2048 .f32 := broadcastInDim S1024x32x4x2048 ![0, 1, 2, 3] bcast_S1024x32x4x1_S1024x32x4x2048_0_1_2_3 main_v134
  let main_v137 : IVec S1024x32x4x2048 1 := cmpf .une main_v135 main_v136
  let main_v138 : IVec S1024x32x4x1 32 := broadcastInDim S1024x32x4x1 ![0, 1, 2] bcast_S1024x32x4_S1024x32x4x1_0_1_2 main_indices_23
  let main_v139 : IVec S1024x32x4x2048 32 := broadcastInDim S1024x32x4x2048 ![0, 1, 2, 3] bcast_S1024x32x4x1_S1024x32x4x2048_0_1_2_3 main_v138
  let main_v140 : IVec S1024x32x4x2048 1 := cmpi .eq main_v132 main_v139
  let main_v141 : IVec S1024x32x4x2048 1 := ori main_v137 main_v140
  (main_v2, main_v5, main_v8, main_v11, main_v14, main_v17, main_v20, main_v23, main_v26, main_v29, main_v32, main_v35, main_v40, main_v118, main_v141)

def fn_part6 {F : FTy → Type} [FloatOps F] (main_v2 : IVec S8x2048x3 1) (main_v5 : IVec S8x2048x3 1) (main_v8 : IVec S3x128 1) (main_v11 : IVec S128 1) (main_v14 : IVec S128x128 1) (main_v17 : IVec S128 1) (main_v20 : IVec S131x128 1) (main_v23 : IVec S128 1) (main_v26 : IVec S128x128 1) (main_v29 : IVec S128 1) (main_v32 : IVec S128x3 1) (main_v35 : IVec S3 1) (main_v40 : IVec S128 1) (main_indices : IVec S8x128x32 32) (main_v69 : FVec F S8x128x32 .f32) (main_v70 : FVec F S1024x32x3 .f32) (main_v73 : FVec F S1024x2048x3 .f32) (main_indices_23 : IVec S1024x32x4 32) (main_v95 : FVec F S1024x32x4 .f32) (main_v109 : IVec S8x128x32x2048 32) (main_v110 : FVec F S8x128x1x2048 .f32) : IVec S8x2048x3 1 × IVec S8x2048x3 1 × IVec S3x128 1 × IVec S128 1 × IVec S128x128 1 × IVec S128 1 × IVec S131x128 1 × IVec S128 1 × IVec S128x128 1 × IVec S128 1 × IVec S128x3 1 × IVec S3 1 × IVec S128 1 × IVec S8x128x32x2048 1 × IVec S1024x32x4x2048 1 :=
  let main_v111 : FVec F S8x128x32x1 .f32 := broadcastInDim S8x128x32x1 ![0, 1, 2] bcast_S8x128x32_S8x128x32x1_0_1_2 main_v69
  let main_v112 : FVec F S8x128x32x2048 .f32 := broadcastInDim S8x128x32x2048 ![0, 1, 2, 3] bcast_S8x128x1x2048_S8x128x32x2048_0_1_2_3 main_v110
  let main_v113 : FVec F S8x128x32x2048 .f32 := broadcastInDim S8x128x32x2048 ![0, 1, 2, 3] bcast_S8x128x32x1_S8x128x32x2048_0_1_2_3 main_v111
  let main_v114 : IVec S8x128x32x2048 1 := cmpf .une main_v112 main_v113
  let main_v115 : IVec S8x128x32x1 32 := broadcastInDim S8x128x32x1 ![0, 1, 2] bcast_S8x128x32_S8x128x32x1_0_1_2 main_indices
  let main_v116 : IVec S8x128x32x2048 32 := broadcastInDim S8x128x32x2048 ![0, 1, 2, 3] bcast_S8x128x32x1_S8x128x32x2048_0_1_2_3 main_v115
  let main_v117 : IVec S8x128x32x2048 1 := cmpi .eq main_v109 main_v116
  let main_v118 : IVec S8x128x32x2048 1 := ori main_v114 main_v117
  let main_v119 : FVec F S1024x32x3 .f32 := mulf main_v70 main_v70
  let main_cst_29 : FVec F S_ .f32 := constant S_ .f32 0x00000000#32
  let main_v120 : FVec F S1024x32 .f32 := (fun x v => Host.reduceAdd x v reducesTo_S1024x32x3_S1024x32_d2 h_S_) main_v119 main_cst_29
  let main_v121 : FVec F S1024x32x1 .f32 := broadcastInDim S1024x32x1 ![0, 1] bcast_S1024x32_S1024x32x1_0_1 main_v120
  let main_v122 : FVec F S1024x2048x3 .f32 := mulf main_v73 main_v73
  let main_cst_30 : FVec F S_ .f32 := constant S_ .f32 0x00000000#32
  let main_v123 : FVec F S1024x2048 .f32 := (fun x v => Host.reduceAdd x v reducesTo_S1024x2048x3_S1024x2048_d2 h_S_) main_v122 main_cst_30
  let main_v124 : FVec F S1024x1x2048 .f32 := broadcastInDim S1024x1x2048 ![0, 2] bcast_S1024x2048_S1024x1x2048_0_2 main_v123
  let main_v125 : FVec F S1024x32x2048 .f32 := broadcastInDim S1024x32x2048 ![0, 1, 2] bcast_S1024x32x1_S1024x32x2048_0_1_2 main_v121
  let main_v126 : FVec F S1024x32x2048 .f32 := broadcastInDim S1024x32x2048 ![0, 1, 2] bcast_S1024x1x2048_S1024x32x2048_0_1_2 main_v124
  let main_v127 : FVec F S1024x32x2048 .f32 := addf main_v125 main_v126
  let main_v128 : FVec F S1024x32x2048 .f32 := (fun l r => Host.dotGeneral dot_S1024x32x3_S1024x2048x3_S1024x32x2048_2_2_1_1_0_0 none l r) main_v70 main_v73
  let main_cst_31 : FVec F S_ .f32 := constant S_ .f32 0x40000000#32
  let main_v129 : FVec F S1024x32x2048 .f32 := broadcastInDim S1024x32x2048 ![] bcast_S_S1024x32x2048 main_cst_31
  let main_v130 : FVec F S1024x32x2048 .f32 := mulf main_v129 main_v128
  let main_v131 : FVec F S1024x32x2048 .f32 := subf main_v127 main_v130
  fn_part7 (F := F) main_v2 main_v5 main_v8 main_v11 main_v14 main_v17 main_v20 main_v23 main_v26 main_v29 main_v32 main_v35 main_v40 main_indices_23 main_v95 main_v118 main_v131

def fn_part5 {F : FTy → Type} [FloatOps F] (main_arg0 : FVec F S8x2048x3 .f32) (main_v2 : IVec S8x2048x3 1) (main_v5 : IVec S8x2048x3 1) (main_v8 : IVec S3x128 1) (main_v11 : IVec S128 1) (main_v14 : IVec S128x128 1) (main_v17 : IVec S128 1) (main_v20 : IVec S131x128 1) (main_v23 : IVec S128 1) (main_v26 : IVec S128x128 1) (main_v29 : IVec S128 1) (main_v32 : IVec S128x3 1) (main_v35 : IVec S3 1) (main_v40 : IVec S128 1) (main_v47 : FVec F S8x128x3 .f32) (main_indices : IVec S8x128x32 32) (main_v69 : FVec F S8x128x32 .f32) (main_v70 : FVec F S1024x32x3 .f32) (main_v73 : FVec F S1024x2048x3 .f32) (main_values_22 : FVec F S1024x32x4 .f32) (main_indices_23 : IVec S1024x32x4 32) (main_v89 : IVec S1024x32x4 1) (main_c_25 : IVec S_ 32) : IVec S8x2048x3 1 × IVec S8x2048x3 1 × IVec S3x128 1 × IVec S128 1 × IVec S128x128 1 × IVec S128 1 × IVec S131x128 1 × IVec S128 1 × IVec S128x128 1 × IVec S128 1 × IVec S128x3 1 × IVec S3 1 × IVec S128 1 × IVec S8x128x32x2048 1 × IVec S1024x32x4x2048 1 :=
  let main_v90 : IVec S1024x32x4 32 := broadcastInDim S1024x32x4 ![] bcast_S_S1024x32x4 main_c_25
  let main_v91 : IVec S1024x32x4 32 := addi main_indices_23 main_v90
  let main_v92 : IVec S1024x32x4 32 := select main_v89 main_v91 main_indices_23
  let main_v93 : IVec S1024x32x4x1 32 := broadcastInDim S1024x32x4x1 ![0, 1, 2] bcast_S1024x32x4_S1024x32x4x1_0_1_2 main_v92
  let main_v94 : FVec F S1024x32x4x3 .f32 := (fun x i => Host.gather gather_S1024x2048x3_S1024x32x4x1_S1024x32x4x3_3_1_0_0_1_3_113 x i) main_v73 main_v93
  let main_v95 : FVec F S1024x32x4 .f32 := Host.negf main_values_22
  let main_v96 : FVec F S8x128x3 .f32 := mulf main_v47 main_v47
  let main_cst_26 : FVec F S_ .f32 := constant S_ .f32 0x00000000#32
  let main_v97 : FVec F S8x128 .f32 := (fun x v => Host.reduceAdd x v reducesTo_S8x128x3_S8x128_d2 h_S_) main_v96 main_cst_26
  let main_v98 : FVec F S8x128x1 .f32 := broadcastInDim S8x128x1 ![0, 1] bcast_S8x128_S8x128x1_0_1 main_v97
  let main_v99 : FVec F S8x2048x3 .f32 := mulf main_arg0 main_arg0
  let main_cst_27 : FVec F S_ .f32 := constant S_ .f32 0x00000000#32
  let main_v100 : FVec F S8x2048 .f32 := (fun x v => Host.reduceAdd x v reducesTo_S8x2048x3_S8x2048_d2 h_S_) main_v99 main_cst_27
  let main_v101 : FVec F S8x1x2048 .f32 := broadcastInDim S8x1x2048 ![0, 2] bcast_S8x2048_S8x1x2048_0_2 main_v100
  let main_v102 : FVec F S8x128x2048 .f32 := broadcastInDim S8x128x2048 ![0, 1, 2] bcast_S8x128x1_S8x128x2048_0_1_2 main_v98
  let main_v103 : FVec F S8x128x2048 .f32 := broadcastInDim S8x128x2048 ![0, 1, 2] bcast_S8x1x2048_S8x128x2048_0_1_2 main_v101
  let main_v104 : FVec F S8x128x2048 .f32 := addf main_v102 main_v103
  let main_v105 : FVec F S8x128x2048 .f32 := (fun l r => Host.dotGeneral dot_S8x128x3_S8x2048x3_S8x128x2048_2_2_1_1_0_0 none l r) main_v47 main_arg0
  let main_cst_28 : FVec F S_ .f32 := constant S_ .f32 0x40000000#32
  let main_v106 : FVec F S8x128x2048 .f32 := broadcastInDim S8x128x2048 ![] bcast_S_S8x128x2048 main_cst_28
  let main_v107 : FVec F S8x128x2048 .f32 := mulf main_v106 main_v105
  let main_v108 : FVec F S8x128x2048 .f32 := subf main_v104 main_v107
  let main_v109 : IVec S8x128x32x2048 32 := iotaInDim S8x128x32x2048 32 3
  let main_v110 : FVec F S8x128x1x2048 .f32 := broadcastInDim S8x128x1x2048 ![0, 1, 3] bcast_S8x128x2048_S8x128x1x2048_0_1_3 main_v108
  fn_part6 (F := F) main_v2 main_v5 main_v8 main_v11 main_v14 main_v17 main_v20 main_v23 main_v26 main_v29 main_v32 main_v35 main_v40 main_indices main_v69 main_v70 main_v73 main_indices_23 main_v95 main_v109 main_v110

def fn_part4 {F : FTy → Type} [FloatOps F] (main_arg0 : FVec F S8x2048x3 .f32) (main_v2 : IVec S8x2048x3 1) (main_v5 : IVec S8x2048x3 1) (main_v8 : IVec S3x128 1) (main_v11 : IVec S128 1) (main_v14 : IVec S128x128 1) (main_v17 : IVec S128 1) (main_v20 : IVec S131x128 1) (main_v23 : IVec S128 1) (main_v26 : IVec S128x128 1) (main_v29 : IVec S128 1) (main_v32 : IVec S128x3 1) (main_v35 : IVec S3 1) (main_v40 : IVec S128 1) (main_v47 : FVec F S8x128x3 .f32) (main_indices : IVec S8x128x32 32) (main_v69 : FVec F S8x128x32 .f32) (main_v70 : FVec F S1024x32x3 .f32) (main_v72 : FVec F S8x128x2048x3 .f32) : IVec S8x2048x3 1 × IVec S8x2048x3 1 × IVec S3x128 1 × IVec S128 1 × IVec S128x128 1 × IVec S128 1 × IVec S131x128 1 × IVec S128 1 × IVec S128x128 1 × IVec S128 1 × IVec S128x3 1 × IVec S3 1 × IVec S128 1 × IVec S8x128x32x2048 1 × IVec S1024x32x4x2048 1 :=
  let main_v73 : FVec F S1024x2048x3 .f32 := shapeCast S1024x2048x3 main_v72 shapeCasts_S8x128x2048x3_S1024x2048x3
  let main_v74 : FVec F S1024x32x3 .f32 := mulf main_v70 main_v70
  let main_cst_19 : FVec F S_ .f32 := constant S_ .f32 0x00000000#32
  let main_v75 : FVec F S1024x32 .f32 := (fun x v => Host.reduceAdd x v reducesTo_S1024x32x3_S1024x32_d2 h_S_) main_v74 main_cst_19
  let main_v76 : FVec F S1024x32x1 .f32 := broadcastInDim S1024x32x1 ![0, 1] bcast_S1024x32_S1024x32x1_0_1 main_v75
  let main_v77 : FVec F S1024x2048x3 .f32 := mulf main_v73 main_v73
  let main_cst_20 : FVec F S_ .f32 := constant S_ .f32 0x00000000#32
  let main_v78 : FVec F S1024x2048 .f32 := (fun x v => Host.reduceAdd x v reducesTo_S1024x2048x3_S1024x2048_d2 h_S_) main_v77 main_cst_20
  let main_v79 : FVec F S1024x1x2048 .f32 := broadcastInDim S1024x1x2048 ![0, 2] bcast_S1024x2048_S1024x1x2048_0_2 main_v78
  let main_v80 : FVec F S1024x32x2048 .f32 := broadcastInDim S1024x32x2048 ![0, 1, 2] bcast_S1024x32x1_S1024x32x2048_0_1_2 main_v76
  let main_v81 : FVec F S1024x32x2048 .f32 := broadcastInDim S1024x32x2048 ![0, 1, 2] bcast_S1024x1x2048_S1024x32x2048_0_1_2 main_v79
  let main_v82 : FVec F S1024x32x2048 .f32 := addf main_v80 main_v81
  let main_v83 : FVec F S1024x32x2048 .f32 := (fun l r => Host.dotGeneral dot_S1024x32x3_S1024x2048x3_S1024x32x2048_2_2_1_1_0_0 none l r) main_v70 main_v73
  let main_cst_21 : FVec F S_ .f32 := constant S_ .f32 0x40000000#32
  let main_v84 : FVec F S1024x32x2048 .f32 := broadcastInDim S1024x32x2048 ![] bcast_S_S1024x32x2048 main_cst_21
  let main_v85 : FVec F S1024x32x2048 .f32 := mulf main_v84 main_v83
  let main_v86 : FVec F S1024x32x2048 .f32 := subf main_v82 main_v85
  let main_v87 : FVec F S1024x32x2048 .f32 := Host.negf main_v86
  let main_values_22 : FVec F S1024x32x4 .f32 := (fun x => (Host.topK S1024x32x4 2 (FloatOps.cmpfTotal .gt) x sliceFits_S1024x32x2048_S1024x32x4).1) main_v87
  let main_indices_23 : IVec S1024x32x4 32 := (fun x => (Host.topK S1024x32x4 2 (FloatOps.cmpfTotal .gt) x sliceFits_S1024x32x2048_S1024x32x4).2) main_v87
  let main_c_24 : IVec S_ 32 := constantI S_ 32 0#32
  let main_v88 : IVec S1024x32x4 32 := broadcastInDim S1024x32x4 ![] bcast_S_S1024x32x4 main_c_24
  let main_v89 : IVec S1024x32x4 1 := cmpi .slt main_indices_23 main_v88
  let main_c_25 : IVec S_ 32 := constantI S_ 32 2048#32
  fn_part5 (F := F) main_arg0 main_v2 main_v5 main_v8 main_v11 main_v14 main_v17 main_v20 main_v23 main_v26 main_v29 main_v32 main_v35 main_v40 main_v47 main_indices main_v69 main_v70 main_v73 main_values_22 main_indices_23 main_v89 main_c_25

def fn_part3 {F : FTy → Type} [FloatOps F] (main_arg0 : FVec F S8x2048x3 .f32) (main_arg1 : FVec F S8x2048x3 .f32) (main_v2 : IVec S8x2048x3 1) (main_v5 : IVec S8x2048x3 1) (main_v8 : IVec S3x128 1) (main_v11 : IVec S128 1) (main_v14 : IVec S128x128 1) (main_v17 : IVec S128 1) (main_v20 : IVec S131x128 1) (main_v23 : IVec S128 1) (main_v26 : IVec S128x128 1) (main_v29 : IVec S128 1) (main_v32 : IVec S128x3 1) (main_v35 : IVec S3 1) (main_v40 : IVec S128 1) (main_v47 : FVec F S8x128x3 .f32) (main_v50 : FVec F S8x128x1 .f32) (main_v53 : FVec F S8x1x2048 .f32) : IVec S8x2048x3 1 × IVec S8x2048x3 1 × IVec S3x128 1 × IVec S128 1 × IVec S128x128 1 × IVec S128 1 × IVec S131x128 1 × IVec S128 1 × IVec S128x128 1 × IVec S128 1 × IVec S128x3 1 × IVec S3 1 × IVec S128 1 × IVec S8x128x32x2048 1 × IVec S1024x32x4x2048 1 :=
  let main_v54 : FVec F S8x128x2048 .f32 := broadcastInDim S8x128x2048 ![0, 1, 2] bcast_S8x128x1_S8x128x2048_0_1_2 main_v50
  let main_v55 : FVec F S8x128x2048 .f32 := broadcastInDim S8x128x2048 ![0, 1, 2] bcast_S8x1x2048_S8x128x2048_0_1_2 main_v53
  let main_v56 : FVec F S8x128x2048 .f32 := addf main_v54 main_v55
  let main_v57 : FVec F S8x128x2048 .f32 := (fun l r => Host.dotGeneral dot_S8x128x3_S8x2048x3_S8x128x2048_2_2_1_1_0_0 none l r) main_v47 main_arg0
  let main_cst_16 : FVec F S_ .f32 := constant S_ .f32 0x40000000#32
  let main_v58 : FVec F S8x128x2048 .f32 := broadcastInDim S8x128x2048 ![] bcast_S_S8x128x2048 main_cst_16
  let main_v59 : FVec F S8x128x2048 .f32 := mulf main_v58 main_v57
  let main_v60 : FVec F S8x128x2048 .f32 := subf main_v56 main_v59
  let main_v61 : FVec F S8x128x2048 .f32 := Host.negf main_v60
  let main_values : FVec F S8x128x32 .f32 := (fun x => (Host.topK S8x128x32 2 (FloatOps.cmpfTotal .gt) x sliceFits_S8x128x2048_S8x128x32).1) main_v61
  let main_indices : IVec S8x128x32 32 := (fun x => (Host.topK S8x128x32 2 (FloatOps.cmpfTotal .gt) x sliceFits_S8x128x2048_S8x128x32).2) main_v61
  let main_c_17 : IVec S_ 32 := constantI S_ 32 0#32
  let main_v62 : IVec S8x128x32 32 := broadcastInDim S8x128x32 ![] bcast_S_S8x128x32 main_c_17
  let main_v63 : IVec S8x128x32 1 := cmpi .slt main_indices main_v62
  let main_c_18 : IVec S_ 32 := constantI S_ 32 2048#32
  let main_v64 : IVec S8x128x32 32 := broadcastInDim S8x128x32 ![] bcast_S_S8x128x32 main_c_18
  let main_v65 : IVec S8x128x32 32 := addi main_indices main_v64
  let main_v66 : IVec S8x128x32 32 := select main_v63 main_v65 main_indices
  let main_v67 : IVec S8x128x32x1 32 := broadcastInDim S8x128x32x1 ![0, 1, 2] bcast_S8x128x32_S8x128x32x1_0_1_2 main_v66
  let main_v68 : FVec F S8x128x32x3 .f32 := (fun x i => Host.gather gather_S8x2048x3_S8x128x32x1_S8x128x32x3_3_1_0_0_1_3_113 x i) main_arg0 main_v67
  let main_v69 : FVec F S8x128x32 .f32 := Host.negf main_values
  let main_v70 : FVec F S1024x32x3 .f32 := shapeCast S1024x32x3 main_v68 shapeCasts_S8x128x32x3_S1024x32x3
  let main_v71 : FVec F S8x1x2048x3 .f32 := broadcastInDim S8x1x2048x3 ![0, 2, 3] bcast_S8x2048x3_S8x1x2048x3_0_2_3 main_arg1
  let main_v72 : FVec F S8x128x2048x3 .f32 := broadcastInDim S8x128x2048x3 ![0, 1, 2, 3] bcast_S8x1x2048x3_S8x128x2048x3_0_1_2_3 main_v71
  fn_part4 (F := F) main_arg0 main_v2 main_v5 main_v8 main_v11 main_v14 main_v17 main_v20 main_v23 main_v26 main_v29 main_v32 main_v35 main_v40 main_v47 main_indices main_v69 main_v70 main_v72

def fn_part2 {F : FTy → Type} [FloatOps F] (main_arg0 : FVec F S8x2048x3 .f32) (main_arg1 : FVec F S8x2048x3 .f32) (main_arg2 : IVec S128 32) (main_v2 : IVec S8x2048x3 1) (main_v5 : IVec S8x2048x3 1) (main_v8 : IVec S3x128 1) (main_v11 : IVec S128 1) (main_v14 : IVec S128x128 1) (main_v17 : IVec S128 1) (main_v20 : IVec S131x128 1) (main_v23 : IVec S128 1) (main_v26 : IVec S128x128 1) (main_v29 : IVec S128 1) (main_v32 : IVec S128x3 1) (main_v35 : IVec S3 1) : IVec S8x2048x3 1 × IVec S8x2048x3 1 × IVec S3x128 1 × IVec S128 1 × IVec S128x128 1 × IVec S128 1 × IVec S131x128 1 × IVec S128 1 × IVec S128x128 1 × IVec S128 1 × IVec S128x3 1 × IVec S3 1 × IVec S128 1 × IVec S8x128x32x2048 1 × IVec S1024x32x4x2048 1 :=
  let main_c : IVec S_ 32 := constantI S_ 32 0#32
  let main_v36 : IVec S128 32 := broadcastInDim S128 ![] bcast_S_S128 main_c
  let main_v37 : IVec S128 1 := cmpi .sge main_arg2 main_v36
  let main_c_11 : IVec S_ 32 := constantI S_ 32 2048#32
  let main_v38 : IVec S128 32 := broadcastInDim S128 ![] bcast_S_S128 main_c_11
  let main_v39 : IVec S128 1 := cmpi .slt main_arg2 main_v38
  let main_v40 : IVec S128 1 := andi main_v37 main_v39
  let main_c_12 : IVec S_ 32 := constantI S_ 32 0#32
  let main_v41 : IVec S128 32 := broadcastInDim S128 ![] bcast_S_S128 main_c_12
  let main_v42 : IVec S128 1 := cmpi .slt main_arg2 main_v41
  let main_c_13 : IVec S_ 32 := constantI S_ 32 2048#32
  let main_v43 : IVec S128 32 := broadcastInDim S128 ![] bcast_S_S128 main_c_13
  let main_v44 : IVec S128 32 := addi main_arg2 main_v43
  let main_v45 : IVec S128 32 := select main_v42 main_v44 main_arg2
  let main_v46 : IVec S128x1 32 := broadcastInDim S128x1 ![0] bcast_S128_S128x1_0 main_v45
  let main_v47 : FVec F S8x128x3 .f32 := (fun x i => Host.gather gather_S8x2048x3_S128x1_S8x128x3_02_1_n_n_1_1_813 x i) main_arg0 main_v46
  let main_v48 : FVec F S8x128x3 .f32 := mulf main_v47 main_v47
  let main_cst_14 : FVec F S_ .f32 := constant S_ .f32 0x00000000#32
  let main_v49 : FVec F S8x128 .f32 := (fun x v => Host.reduceAdd x v reducesTo_S8x128x3_S8x128_d2 h_S_) main_v48 main_cst_14
  let main_v50 : FVec F S8x128x1 .f32 := broadcastInDim S8x128x1 ![0, 1] bcast_S8x128_S8x128x1_0_1 main_v49
  let main_v51 : FVec F S8x2048x3 .f32 := mulf main_arg0 main_arg0
  let main_cst_15 : FVec F S_ .f32 := constant S_ .f32 0x00000000#32
  let main_v52 : FVec F S8x2048 .f32 := (fun x v => Host.reduceAdd x v reducesTo_S8x2048x3_S8x2048_d2 h_S_) main_v51 main_cst_15
  let main_v53 : FVec F S8x1x2048 .f32 := broadcastInDim S8x1x2048 ![0, 2] bcast_S8x2048_S8x1x2048_0_2 main_v52
  fn_part3 (F := F) main_arg0 main_arg1 main_v2 main_v5 main_v8 main_v11 main_v14 main_v17 main_v20 main_v23 main_v26 main_v29 main_v32 main_v35 main_v40 main_v47 main_v50 main_v53

def fn_part1 {F : FTy → Type} [FloatOps F] (main_arg0 : FVec F S8x2048x3 .f32) (main_arg1 : FVec F S8x2048x3 .f32) (main_arg2 : IVec S128 32) (main_arg7 : FVec F S131x128 .f32) (main_arg8 : FVec F S128 .f32) (main_arg9 : FVec F S128x128 .f32) (main_arg10 : FVec F S128 .f32) (main_arg11 : FVec F S128x3 .f32) (main_arg12 : FVec F S3 .f32) (main_v2 : IVec S8x2048x3 1) (main_v5 : IVec S8x2048x3 1) (main_v8 : IVec S3x128 1) (main_v11 : IVec S128 1) (main_v14 : IVec S128x128 1) (main_v17 : IVec S128 1) : IVec S8x2048x3 1 × IVec S8x2048x3 1 × IVec S3x128 1 × IVec S128 1 × IVec S128x128 1 × IVec S128 1 × IVec S131x128 1 × IVec S128 1 × IVec S128x128 1 × IVec S128 1 × IVec S128x3 1 × IVec S3 1 × IVec S128 1 × IVec S8x128x32x2048 1 × IVec S1024x32x4x2048 1 :=
  let main_v18 : FVec F S131x128 .f32 := Host.absf main_arg7
  let main_cst_5 : FVec F S_ .f32 := constant S_ .f32 0x7F800000#32
  let main_v19 : FVec F S131x128 .f32 := broadcastInDim S131x128 ![] bcast_S_S131x128 main_cst_5
  let main_v20 : IVec S131x128 1 := cmpf .olt main_v18 main_v19
  let main_v21 : FVec F S128 .f32 := Host.absf main_arg8
  let main_cst_6 : FVec F S_ .f32 := constant S_ .f32 0x7F800000#32
  let main_v22 : FVec F S128 .f32 := broadcastInDim S128 ![] bcast_S_S128 main_cst_6
  let main_v23 : IVec S128 1 := cmpf .olt main_v21 main_v22
  let main_v24 : FVec F S128x128 .f32 := Host.absf main_arg9
  let main_cst_7 : FVec F S_ .f32 := constant S_ .f32 0x7F800000#32
  let main_v25 : FVec F S128x128 .f32 := broadcastInDim S128x128 ![] bcast_S_S128x128 main_cst_7
  let main_v26 : IVec S128x128 1 := cmpf .olt main_v24 main_v25
  let main_v27 : FVec F S128 .f32 := Host.absf main_arg10
  let main_cst_8 : FVec F S_ .f32 := constant S_ .f32 0x7F800000#32
  let main_v28 : FVec F S128 .f32 := broadcastInDim S128 ![] bcast_S_S128 main_cst_8
  let main_v29 : IVec S128 1 := cmpf .olt main_v27 main_v28
  let main_v30 : FVec F S128x3 .f32 := Host.absf main_arg11
  let main_cst_9 : FVec F S_ .f32 := constant S_ .f32 0x7F800000#32
  let main_v31 : FVec F S128x3 .f32 := broadcastInDim S128x3 ![] bcast_S_S128x3 main_cst_9
  let main_v32 : IVec S128x3 1 := cmpf .olt main_v30 main_v31
  let main_v33 : FVec F S3 .f32 := Host.absf main_arg12
  let main_cst_10 : FVec F S_ .f32 := constant S_ .f32 0x7F800000#32
  let main_v34 : FVec F S3 .f32 := broadcastInDim S3 ![] bcast_S_S3 main_cst_10
  let main_v35 : IVec S3 1 := cmpf .olt main_v33 main_v34
  fn_part2 (F := F) main_arg0 main_arg1 main_arg2 main_v2 main_v5 main_v8 main_v11 main_v14 main_v17 main_v20 main_v23 main_v26 main_v29 main_v32 main_v35

def fn {F : FTy → Type} [FloatOps F] (main_arg0 : FVec F S8x2048x3 .f32) (main_arg1 : FVec F S8x2048x3 .f32) (main_arg2 : IVec S128 32) (main_arg3 : FVec F S3x128 .f32) (main_arg4 : FVec F S128 .f32) (main_arg5 : FVec F S128x128 .f32) (main_arg6 : FVec F S128 .f32) (main_arg7 : FVec F S131x128 .f32) (main_arg8 : FVec F S128 .f32) (main_arg9 : FVec F S128x128 .f32) (main_arg10 : FVec F S128 .f32) (main_arg11 : FVec F S128x3 .f32) (main_arg12 : FVec F S3 .f32) : IVec S8x2048x3 1 × IVec S8x2048x3 1 × IVec S3x128 1 × IVec S128 1 × IVec S128x128 1 × IVec S128 1 × IVec S131x128 1 × IVec S128 1 × IVec S128x128 1 × IVec S128 1 × IVec S128x3 1 × IVec S3 1 × IVec S128 1 × IVec S8x128x32x2048 1 × IVec S1024x32x4x2048 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_v3 : FVec F S8x2048x3 .f32 := Host.absf main_arg1
  let main_cst_0 : FVec F S_ .f32 := constant S_ .f32 0x7F800000#32
  let main_v4 : FVec F S8x2048x3 .f32 := broadcastInDim S8x2048x3 ![] bcast_S_S8x2048x3 main_cst_0
  let main_v5 : IVec S8x2048x3 1 := cmpf .olt main_v3 main_v4
  let main_v6 : FVec F S3x128 .f32 := Host.absf main_arg3
  let main_cst_1 : FVec F S_ .f32 := constant S_ .f32 0x7F800000#32
  let main_v7 : FVec F S3x128 .f32 := broadcastInDim S3x128 ![] bcast_S_S3x128 main_cst_1
  let main_v8 : IVec S3x128 1 := cmpf .olt main_v6 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128x128 .f32 := Host.absf main_arg5
  let main_cst_3 : FVec F S_ .f32 := constant S_ .f32 0x7F800000#32
  let main_v13 : FVec F S128x128 .f32 := broadcastInDim S128x128 ![] bcast_S_S128x128 main_cst_3
  let main_v14 : IVec S128x128 1 := cmpf .olt main_v12 main_v13
  let main_v15 : FVec F S128 .f32 := Host.absf main_arg6
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg0 main_arg1 main_arg2 main_arg7 main_arg8 main_arg9 main_arg10 main_arg11 main_arg12 main_v2 main_v5 main_v8 main_v11 main_v14 main_v17
-- ==== Kernel.lean ====
abbrev S8x2048x3 : Shape := ⟨3, ![8, 2048, 3]⟩
abbrev S128 : Shape := ⟨1, ![128]⟩
abbrev S3x128 : Shape := ⟨2, ![3, 128]⟩
abbrev S128x128 : Shape := ⟨2, ![128, 128]⟩
abbrev S131x128 : Shape := ⟨2, ![131, 128]⟩
abbrev S128x3 : Shape := ⟨2, ![128, 3]⟩
abbrev S3 : Shape := ⟨1, ![3]⟩
abbrev S8x3x2048 : Shape := ⟨3, ![8, 3, 2048]⟩
abbrev S128x1 : Shape := ⟨2, ![128, 1]⟩
abbrev S1x128 : Shape := ⟨2, ![1, 128]⟩
abbrev S1x3 : Shape := ⟨2, ![1, 3]⟩
abbrev S1x1 : Shape := ⟨2, ![1, 1]⟩
abbrev S1x3x2048 : Shape := ⟨3, ![1, 3, 2048]⟩
abbrev S1x2048x3 : Shape := ⟨3, ![1, 2048, 3]⟩
abbrev S4096x2048 : Shape := ⟨2, ![4096, 2048]⟩
abbrev S128x2048 : Shape := ⟨2, ![128, 2048]⟩
abbrev S2048x6 : Shape := ⟨2, ![2048, 6]⟩
abbrev S3x2048 : Shape := ⟨2, ![3, 2048]⟩
abbrev S9x2048 : Shape := ⟨2, ![9, 2048]⟩
abbrev S2048 : Shape := ⟨1, ![2048]⟩
abbrev S1x2048 : Shape := ⟨2, ![1, 2048]⟩
abbrev S128x9 : Shape := ⟨2, ![128, 9]⟩
abbrev S1x256x3 : Shape := ⟨3, ![1, 256, 3]⟩
abbrev S256x3 : Shape := ⟨2, ![256, 3]⟩
abbrev S256 : Shape := ⟨1, ![256]⟩
abbrev S256x1 : Shape := ⟨2, ![256, 1]⟩
abbrev S256x9 : Shape := ⟨2, ![256, 9]⟩
abbrev S256x2048 : Shape := ⟨2, ![256, 2048]⟩
abbrev S256x6 : Shape := ⟨2, ![256, 6]⟩
abbrev S4096x6 : Shape := ⟨2, ![4096, 6]⟩
abbrev S4096x3 : Shape := ⟨2, ![4096, 3]⟩
abbrev S1x128x3 : Shape := ⟨3, ![1, 128, 3]⟩
abbrev S32x128x3 : Shape := ⟨3, ![32, 128, 3]⟩
abbrev S1x128x128 : Shape := ⟨3, ![1, 128, 128]⟩
abbrev S32x128x128 : Shape := ⟨3, ![32, 128, 128]⟩
abbrev S4096x128 : Shape := ⟨2, ![4096, 128]⟩
abbrev S1x4096x3 : Shape := ⟨3, ![1, 4096, 3]⟩
abbrev S1 : Shape := ⟨1, ![1]⟩
abbrev S1x1x1 : Shape := ⟨3, ![1, 1, 1]⟩
abbrev S_ : Shape := ⟨0, ![]⟩

abbrev nBuf : Space → Nat
  | .hbm => 25
  | .vmem => 22
  | .smem => 1
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S128, .i32⟩
  | .hbm, ⟨3, _⟩ => ⟨S3x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S131x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x3, .f32⟩
  | .hbm, ⟨12, _⟩ => ⟨S3, .f32⟩
  | .hbm, ⟨13, _⟩ => ⟨S8x3x2048, .f32⟩
  | .hbm, ⟨14, _⟩ => ⟨S8x3x2048, .f32⟩
  | .hbm, ⟨15, _⟩ => ⟨S128x1, .i32⟩
  | .hbm, ⟨16, _⟩ => ⟨S1x128, .f32⟩
  | .hbm, ⟨17, _⟩ => ⟨S1x128, .f32⟩
  | .hbm, ⟨18, _⟩ => ⟨S3x128, .f32⟩
  | .hbm, ⟨19, _⟩ => ⟨S128x128, .f32⟩
  | .hbm, ⟨20, _⟩ => ⟨S1x128, .f32⟩
  | .hbm, ⟨21, _⟩ => ⟨S1x128, .f32⟩
  | .hbm, ⟨22, _⟩ => ⟨S1x3, .f32⟩
  | .hbm, ⟨23, _⟩ => ⟨S1x1, .f32⟩
  | .hbm, ⟨24, _⟩ => ⟨S_, .f32⟩
  | .local _ .vmem, ⟨0, _⟩ => ⟨S1x3x2048, .f32⟩
  | .local _ .vmem, ⟨1, _⟩ => ⟨S1x3x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048x3, .f32⟩
  | .local _ .vmem, ⟨5, _⟩ => ⟨S1x2048x3, .f32⟩
  | .local _ .vmem, ⟨6, _⟩ => ⟨S128x1, .i32⟩
  | .local _ .vmem, ⟨7, _⟩ => ⟨S3x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S3x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x3, .f32⟩
  | .local _ .vmem, ⟨17, _⟩ => ⟨S1x3, .f32⟩
  | .local _ .vmem, ⟨18, _⟩ => ⟨S4096x2048, .bf16⟩
  | .local _ .vmem, ⟨19, _⟩ => ⟨S128x2048, .f32⟩
  | .local _ .vmem, ⟨20, _⟩ => ⟨S2048x6, .bf16⟩
  | .local _ .vmem, ⟨21, _⟩ => ⟨S2048x6, .bf16⟩
  | .local _ .smem, ⟨0, _⟩ => ⟨S1x1, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_stg15_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v66 : BitVec 32 := Scalar.addi c0_i32 c8_i32
  let c1_i32 : BitVec 32 := 1#32
  ⟨c0_i32, v66, c1_i32⟩
def k0_off1 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v132 : BitVec 32 := Scalar.muli arg21 c128_i32
  let v133 : Index := Scalar.indexCast v132
  let c0_69 : Index := 0#32
  ![v133.toNat, 0]
def k0_off2 (k0_t1 : Fin k0_t1_loop.trips) : Fin 3 → Nat :=
  let c0_73 : Index := 0#32
  let c0_i32 : BitVec 32 := 0#32
  let c1_i32 : BitVec 32 := 1#32
  let arg21 : BitVec 32 := Scf.iv c0_i32 c1_i32 k0_t1
  let c256_i32 : BitVec 32 := 256#32
  let v142 : BitVec 32 := Scalar.muli arg21 c256_i32
  let v143 : Index := Scalar.indexCast v142
  let c0_74 : Index := 0#32
  ![0, v143.toNat, 0]
def k0_off3 (k0_t1 : Fin k0_t1_loop.trips) : Fin 2 → Nat :=
  let c0_i32 : BitVec 32 := 0#32
  let c1_i32 : BitVec 32 := 1#32
  let arg21 : BitVec 32 := Scf.iv c0_i32 c1_i32 k0_t1
  let c256_i32_88 : BitVec 32 := 256#32
  let v197 : BitVec 32 := Scalar.muli arg21 c256_i32_88
  let v198 : Index := Scalar.indexCast v197
  let c0_89 : Index := 0#32
  ![v198.toNat, 0]
@[reducible] def k0_t2_loop : Scf.Loop 32 :=
  let c8_i32_30 : BitVec 32 := 8#32
  let c24_i32 : BitVec 32 := 24#32
  let v67 : BitVec 32 := Scalar.addi c8_i32_30 c24_i32
  let c1_i32_31 : BitVec 32 := 1#32
  ⟨c8_i32_30, v67, c1_i32_31⟩
def k0_off4 (k0_t2 : Fin k0_t2_loop.trips) : Fin 2 → Nat :=
  let c8_i32_30 : BitVec 32 := 8#32
  let c1_i32_31 : BitVec 32 := 1#32
  let arg21 : BitVec 32 := Scf.iv c8_i32_30 c1_i32_31 k0_t2
  let c128_i32 : BitVec 32 := 128#32
  let v132 : BitVec 32 := Scalar.muli arg21 c128_i32
  let v133 : Index := Scalar.indexCast v132
  let c0_69 : Index := 0#32
  ![v133.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x3 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x3 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .smem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "big" => some ⊤
  | _ => none
-- ==== ReferenceIdeal.lean ====
abbrev S8x2048x3 : Shape := ⟨3, ![8, 2048, 3]⟩
abbrev S128 : Shape := ⟨1, ![128]⟩
abbrev S3x128 : Shape := ⟨2, ![3, 128]⟩
abbrev S128x128 : Shape := ⟨2, ![128, 128]⟩
abbrev S131x128 : Shape := ⟨2, ![131, 128]⟩
abbrev S128x3 : Shape := ⟨2, ![128, 3]⟩
abbrev S3 : Shape := ⟨1, ![3]⟩
abbrev S8x2048x128 : Shape := ⟨3, ![8, 2048, 128]⟩
abbrev S1x1x128 : Shape := ⟨3, ![1, 1, 128]⟩
abbrev S_ : Shape := ⟨0, ![]⟩
abbrev S128x1 : Shape := ⟨2, ![128, 1]⟩
abbrev S8x128x128 : Shape := ⟨3, ![8, 128, 128]⟩
abbrev S8x128x3 : Shape := ⟨3, ![8, 128, 3]⟩
abbrev S8x128 : Shape := ⟨2, ![8, 128]⟩
abbrev S8x128x1 : Shape := ⟨3, ![8, 128, 1]⟩
abbrev S8x2048 : Shape := ⟨2, ![8, 2048]⟩
abbrev S8x1x2048 : Shape := ⟨3, ![8, 1, 2048]⟩
abbrev S8x128x2048 : Shape := ⟨3, ![8, 128, 2048]⟩
abbrev S8x128x32 : Shape := ⟨3, ![8, 128, 32]⟩
abbrev S8x128x32x1 : Shape := ⟨4, ![8, 128, 32, 1]⟩
abbrev S8x128x32x3 : Shape := ⟨4, ![8, 128, 32, 3]⟩
abbrev S8x128x1x3 : Shape := ⟨4, ![8, 128, 1, 3]⟩
abbrev S1024x32x3 : Shape := ⟨3, ![1024, 32, 3]⟩
abbrev S8x1x2048x3 : Shape := ⟨4, ![8, 1, 2048, 3]⟩
abbrev S8x128x2048x3 : Shape := ⟨4, ![8, 128, 2048, 3]⟩
abbrev S1024x2048x3 : Shape := ⟨3, ![1024, 2048, 3]⟩
abbrev S1024x32 : Shape := ⟨2, ![1024, 32]⟩
abbrev S1024x32x1 : Shape := ⟨3, ![1024, 32, 1]⟩
abbrev S1024x2048 : Shape := ⟨2, ![1024, 2048]⟩
abbrev S1024x1x2048 : Shape := ⟨3, ![1024, 1, 2048]⟩
abbrev S1024x32x2048 : Shape := ⟨3, ![1024, 32, 2048]⟩
abbrev S1024x32x4 : Shape := ⟨3, ![1024, 32, 4]⟩
abbrev S1024x32x4x1 : Shape := ⟨4, ![1024, 32, 4, 1]⟩
abbrev S1024x32x4x3 : Shape := ⟨4, ![1024, 32, 4, 3]⟩
abbrev S8x128x32x4x3 : Shape := ⟨5, ![8, 128, 32, 4, 3]⟩
abbrev S8x128x32x1x3 : Shape := ⟨5, ![8, 128, 32, 1, 3]⟩
abbrev S1024x128 : Shape := ⟨2, ![1024, 128]⟩
abbrev S1024x1x128 : Shape := ⟨3, ![1024, 1, 128]⟩
abbrev S1024x32x128 : Shape := ⟨3, ![1024, 32, 128]⟩
abbrev S1024x32x131 : Shape := ⟨3, ![1024, 32, 131]⟩
abbrev S1x1x3 : Shape := ⟨3, ![1, 1, 3]⟩

abbrev nBuf : Space → Nat
  | .hbm => 158
  | .vmem => 0
  | .smem => 0
  | _ => 0

abbrev hbmTy0_0 (i : Nat) : BufTy := match i % 128 with
  | 0 => ⟨S8x2048x3, .f32⟩
  | 1 => ⟨S8x2048x3, .f32⟩
  | 2 => ⟨S128, .i32⟩
  | 3 => ⟨S3x128, .f32⟩
  | 4 => ⟨S128, .f32⟩
  | 5 => ⟨S128x128, .f32⟩
  | 6 => ⟨S128, .f32⟩
  | 7 => ⟨S131x128, .f32⟩
  | 8 => ⟨S128, .f32⟩
  | 9 => ⟨S128x128, .f32⟩
  | 10 => ⟨S128, .f32⟩
  | 11 => ⟨S128x3, .f32⟩
  | 12 => ⟨S3, .f32⟩
  | 13 => ⟨S8x2048x128, .f32⟩
  | 14 => ⟨S1x1x128, .f32⟩
  | 15 => ⟨S8x2048x128, .f32⟩
  | 16 => ⟨S8x2048x128, .f32⟩
  | 17 => ⟨S_, .f32⟩
  | 18 => ⟨S8x2048x128, .f32⟩
  | 19 => ⟨S8x2048x128, .f32⟩
  | 20 => ⟨S8x2048x128, .f32⟩
  | 21 => ⟨S1x1x128, .f32⟩
  | 22 => ⟨S8x2048x128, .f32⟩
  | 23 => ⟨S8x2048x128, .f32⟩
  | 24 => ⟨S_, .i32⟩
  | 25 => ⟨S128, .i32⟩
  | 26 => ⟨S128, .i1⟩
  | 27 => ⟨S_, .i32⟩
  | 28 => ⟨S128, .i32⟩
  | 29 => ⟨S128, .i32⟩
  | 30 => ⟨S128, .i32⟩
  | 31 => ⟨S128x1, .i32⟩
  | 32 => ⟨S8x128x128, .f32⟩
  | 33 => ⟨S_, .i32⟩
  | 34 => ⟨S128, .i32⟩
  | 35 => ⟨S128, .i1⟩
  | 36 => ⟨S_, .i32⟩
  | 37 => ⟨S128, .i32⟩
  | 38 => ⟨S128, .i32⟩
  | 39 => ⟨S128, .i32⟩
  | 40 => ⟨S128x1, .i32⟩
  | 41 => ⟨S8x128x3, .f32⟩
  | 42 => ⟨S8x128x3, .f32⟩
  | 43 => ⟨S_, .f32⟩
  | 44 => ⟨S8x128, .f32⟩
  | 45 => ⟨S8x128x1, .f32⟩
  | 46 => ⟨S8x2048x3, .f32⟩
  | 47 => ⟨S_, .f32⟩
  | 48 => ⟨S8x2048, .f32⟩
  | 49 => ⟨S8x1x2048, .f32⟩
  | 50 => ⟨S8x128x2048, .f32⟩
  | 51 => ⟨S8x128x2048, .f32⟩
  | 52 => ⟨S8x128x2048, .f32⟩
  | 53 => ⟨S8x128x2048, .f32⟩
  | 54 => ⟨S_, .f32⟩
  | 55 => ⟨S8x128x2048, .f32⟩
  | 56 => ⟨S8x128x2048, .f32⟩
  | 57 => ⟨S8x128x2048, .f32⟩
  | 58 => ⟨S8x128x2048, .f32⟩
  | 59 => ⟨S8x128x32, .f32⟩
  | 60 => ⟨S8x128x32, .i32⟩
  | 61 => ⟨S_, .i32⟩
  | 62 => ⟨S8x128x32, .i32⟩
  | 63 => ⟨S8x128x32, .i1⟩
  | 64 => ⟨S_, .i32⟩
  | 65 => ⟨S8x128x32, .i32⟩
  | 66 => ⟨S8x128x32, .i32⟩
  | 67 => ⟨S8x128x32, .i32⟩
  | 68 => ⟨S8x128x32x1, .i32⟩
  | 69 => ⟨S8x128x32x3, .f32⟩
  | 70 => ⟨S8x128x32, .f32⟩
  | 71 => ⟨S8x128x1x3, .f32⟩
  | 72 => ⟨S8x128x32x3, .f32⟩
  | 73 => ⟨S8x128x32x3, .f32⟩
  | 74 => ⟨S1024x32x3, .f32⟩
  | 75 => ⟨S8x1x2048x3, .f32⟩
  | 76 => ⟨S8x128x2048x3, .f32⟩
  | 77 => ⟨S1024x2048x3, .f32⟩
  | 78 => ⟨S1024x32x3, .f32⟩
  | 79 => ⟨S_, .f32⟩
  | 80 => ⟨S1024x32, .f32⟩
  | 81 => ⟨S1024x32x1, .f32⟩
  | 82 => ⟨S1024x2048x3, .f32⟩
  | 83 => ⟨S_, .f32⟩
  | 84 => ⟨S1024x2048, .f32⟩
  | 85 => ⟨S1024x1x2048, .f32⟩
  | 86 => ⟨S1024x32x2048, .f32⟩
  | 87 => ⟨S1024x32x2048, .f32⟩
  | 88 => ⟨S1024x32x2048, .f32⟩
  | 89 => ⟨S1024x32x2048, .f32⟩
  | 90 => ⟨S_, .f32⟩
  | 91 => ⟨S1024x32x2048, .f32⟩
  | 92 => ⟨S1024x32x2048, .f32⟩
  | 93 => ⟨S1024x32x2048, .f32⟩
  | 94 => ⟨S1024x32x2048, .f32⟩
  | 95 => ⟨S1024x32x4, .f32⟩
  | 96 => ⟨S1024x32x4, .i32⟩
  | 97 => ⟨S_, .i32⟩
  | 98 => ⟨S1024x32x4, .i32⟩
  | 99 => ⟨S1024x32x4, .i1⟩
  | 100 => ⟨S_, .i32⟩
  | 101 => ⟨S1024x32x4, .i32⟩
  | 102 => ⟨S1024x32x4, .i32⟩
  | 103 => ⟨S1024x32x4, .i32⟩
  | 104 => ⟨S1024x32x4x1, .i32⟩
  | 105 => ⟨S1024x32x4x3, .f32⟩
  | 106 => ⟨S1024x32x4, .f32⟩
  | 107 => ⟨S8x128x32x4x3, .f32⟩
  | 108 => ⟨S8x128x32x1x3, .f32⟩
  | 109 => ⟨S8x128x32x4x3, .f32⟩
  | 110 => ⟨S8x128x32x4x3, .f32⟩
  | 111 => ⟨S_, .f32⟩
  | 112 => ⟨S8x128x32x3, .f32⟩
  | 113 => ⟨S_, .f32⟩
  | 114 => ⟨S8x128x32x3, .f32⟩
  | 115 => ⟨S8x128x32x3, .f32⟩
  | 116 => ⟨S1024x32x3, .f32⟩
  | 117 => ⟨S1024x128, .f32⟩
  | 118 => ⟨S1024x1x128, .f32⟩
  | 119 => ⟨S1024x32x128, .f32⟩
  | 120 => ⟨S1024x32x131, .f32⟩
  | 121 => ⟨S1024x32x128, .f32⟩
  | 122 => ⟨S1x1x128, .f32⟩
  | 123 => ⟨S1024x32x128, .f32⟩
  | 124 => ⟨S1024x32x128, .f32⟩
  | 125 => ⟨S_, .f32⟩
  | 126 => ⟨S1024x32x128, .f32⟩
  | 127 => ⟨S1024x32x128, .f32⟩
  | _ => ⟨S8x2048x3, .f32⟩

abbrev hbmTy0_1 (i : Nat) : BufTy := match i % 128 with
  | 0 => ⟨S1024x32x128, .f32⟩
  | 1 => ⟨S1x1x128, .f32⟩
  | 2 => ⟨S1024x32x128, .f32⟩
  | 3 => ⟨S1024x32x128, .f32⟩
  | 4 => ⟨S_, .f32⟩
  | 5 => ⟨S1024x32x128, .f32⟩
  | 6 => ⟨S1024x32x128, .f32⟩
  | 7 => ⟨S1024x32x3, .f32⟩
  | 8 => ⟨S1x1x3, .f32⟩
  | 9 => ⟨S1024x32x3, .f32⟩
  | 10 => ⟨S1024x32x3, .f32⟩
  | 11 => ⟨S8x128x32x3, .f32⟩
  | 12 => ⟨S_, .f32⟩
  | 13 => ⟨S8x128x32x3, .f32⟩
  | 14 => ⟨S8x128x32x3, .f32⟩
  | 15 => ⟨S8x128x32x3, .f32⟩
  | 16 => ⟨S_, .f32⟩
  | 17 => ⟨S8x128x32x3, .f32⟩
  | 18 => ⟨S8x128x32x3, .f32⟩
  | 19 => ⟨S_, .f32⟩
  | 20 => ⟨S8x128x32x3, .f32⟩
  | 21 => ⟨S8x128x32x3, .f32⟩
  | 22 => ⟨S_, .f32⟩
  | 23 => ⟨S8x128x32, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | _ => ⟨S8x2048x3, .f32⟩

abbrev hbmTy (i : Nat) : BufTy := match i / 128 with
  | 0 => hbmTy0_0 i
  | 1 => hbmTy0_1 i
  | _ => ⟨S8x2048x3, .f32⟩

abbrev bufTy : (tb : Table) → Fin (tcTables nBuf tb) → BufTy
  | .hbm, ⟨i, _⟩ => hbmTy i
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_values : Ref sig .tc := ⟨.hbm, 59, rfl⟩
abbrev main_indices : Ref sig .tc := ⟨.hbm, 60, rfl⟩
abbrev main_c_5 : Ref sig .tc := ⟨.hbm, 61, rfl⟩
abbrev main_v37 : Ref sig .tc := ⟨.hbm, 62, rfl⟩
abbrev main_v38 : Ref sig .tc := ⟨.hbm, 63, rfl⟩
abbrev main_c_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_8 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_values_10 : Ref sig .tc := ⟨.hbm, 95, rfl⟩
abbrev main_indices_11 : Ref sig .tc := ⟨.hbm, 96, rfl⟩
abbrev main_c_12 : Ref sig .tc := ⟨.hbm, 97, rfl⟩
abbrev main_v66 : Ref sig .tc := ⟨.hbm, 98, rfl⟩
abbrev main_v67 : Ref sig .tc := ⟨.hbm, 99, rfl⟩
abbrev main_c_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_14 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_call1_cst : Ref sig .tc := ⟨.hbm, 125, rfl⟩
abbrev main_call1_v0 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call2_cst : Ref sig .tc := ⟨.hbm, 132, rfl⟩
abbrev main_call2_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_16 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_17 : Ref sig .tc := ⟨.hbm, 144, rfl⟩
abbrev main_v104 : Ref sig .tc := ⟨.hbm, 145, rfl⟩
abbrev main_v105 : Ref sig .tc := ⟨.hbm, 146, rfl⟩
abbrev main_cst_18 : Ref sig .tc := ⟨.hbm, 147, rfl⟩
abbrev main_v106 : Ref sig .tc := ⟨.hbm, 148, rfl⟩
abbrev main_v107 : Ref sig .tc := ⟨.hbm, 149, rfl⟩
abbrev main_cst_19 : Ref sig .tc := ⟨.hbm, 150, rfl⟩
abbrev main_v108 : Ref sig .tc := ⟨.hbm, 151, rfl⟩
abbrev main_cst_20 : Ref sig .tc := ⟨.hbm, 152, rfl⟩
abbrev main_v109 : Ref sig .tc := ⟨.hbm, 153, rfl⟩
abbrev main_cst_21 : Ref sig .tc := ⟨.hbm, 154, rfl⟩
abbrev main_v110 : Ref sig .tc := ⟨.hbm, 155, rfl⟩
abbrev main_cst_22 : Ref sig .tc := ⟨.hbm, 156, rfl⟩
abbrev main_v111 : Ref sig .tc := ⟨.hbm, 157, rfl⟩

abbrev nD : Nat := 1
abbrev τ : Topo := Topo.v7x

variable {F : FTy → Type} [FloatOps F]
-- ==== Proof.Loops.lean ====
module

public import proofs.«01_k».proof.Proof.Gen.KernelIdeal.Loops
public import Idealize.ShloMosaic.Lib.ValueIdxCore
public import Idealize.ShloMosaic.Lib.ValueIdxCoords
public import Idealize.ShloMosaic.Lib.WritesUnit
public import Idealize.ShloMosaic.Lib.Pipeline.Value
public import Idealize.ShloMosaic.Lib.Pipeline.FrameBody

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

/-! ## What the two loops leave, as plain functions of what they start from -/

/-- The distance table after `k` selection rounds: each round replaces every row's minima. -/
def dist (d : FVec F S128x2048 .f32) : ℕ → FVec F S128x2048 .f32
  | 0 => d
  | k + 1 => k0_pay5 (dist d k)

/-- The selection table: its rows `128k … 128k + 127` mark the minima of round `k`. -/
def sel (d : FVec F S128x2048 .f32) : FVec F S4096x2048 .bf16 := fun j =>
  k0_pay4 (dist d ((j 0).val / 128)) (ix2 ⟨(j 0).val % 128, Nat.mod_lt _ (by norm_num)⟩ (j 1))

/-- The `k`-th strip of 256 noisy points. -/
def strip (X : FVec F S1x2048x3 .f32) (k : Fin k0_t1_loop.trips) : FVec F S1x256x3 .f32 :=
  View.ld (Val := Elt F) (e' := EltTy.f32) X (Rect.unit (s := S1x2048x3) (k0_off2 k) S1x256x3.size (k0_off2_inb k))

/-- The strip's rows of the table of values (leading part). -/
def rowsHi (v3 : FVec F S3x2048 .f32) (v10 v13 : FVec F S3x2048 .bf16) (v15 : FVec F S9x2048 .bf16)
    (X : FVec F S1x2048x3 .f32) (k : Fin k0_t1_loop.trips) : FVec F S256x6 .bf16 :=
  k0_pay25 v10 v13 (k0_pay6 (strip X k)) (k0_pay7 v15 (k0_pay21 v3) (strip X k)) (k0_pay8 v15 (k0_pay21 v3) (strip X k))
    (Named.named κ "big" 0x7F61B1E6#32)

/-- The strip's rows of the table of values (remainder). -/
def rowsLo (v3 : FVec F S3x2048 .f32) (v10 v13 : FVec F S3x2048 .bf16) (v15 : FVec F S9x2048 .bf16)
    (X : FVec F S1x2048x3 .f32) (k : Fin k0_t1_loop.trips) : FVec F S256x6 .bf16 :=
  k0_pay26 v10 v13 (k0_pay6 (strip X k)) (k0_pay7 v15 (k0_pay21 v3) (strip X k)) (k0_pay8 v15 (k0_pay21 v3) (strip X k))
    (Named.named κ "big" 0x7F61B1E6#32)

theorem trips1 : k0_t1_loop.trips = 8 := by decide +kernel
theorem trips2 : k0_t2_loop.trips = 24 := by decide +kernel

theorem strip_lt (j : S2048x6.Idx) : (j 0).val / 256 < k0_t1_loop.trips := by
  have := idx2_lt0 j; rw [trips1]; omega

/-- The table of values (leading part): per noisy point, its coordinates and the mean of its four clean neighbours less
    the point. -/
def tabHi (v3 : FVec F S3x2048 .f32) (v10 v13 : FVec F S3x2048 .bf16) (v15 : FVec F S9x2048 .bf16)
    (X : FVec F S1x2048x3 .f32) : FVec F S2048x6 .bf16 := fun j =>
  rowsHi v3 v10 v13 v15 X ⟨(j 0).val / 256, strip_lt j⟩ (ix2 ⟨(j 0).val % 256, Nat.mod_lt _ (by norm_num)⟩ (j 1))

/-- The table of values (remainder). -/
def tabLo (v3 : FVec F S3x2048 .f32) (v10 v13 : FVec F S3x2048 .bf16) (v15 : FVec F S9x2048 .bf16)
    (X : FVec F S1x2048x3 .f32) : FVec F S2048x6 .bf16 := fun j =>
  rowsLo v3 v10 v13 v15 X ⟨(j 0).val / 256, strip_lt j⟩ (ix2 ⟨(j 0).val % 256, Nat.mod_lt _ (by norm_num)⟩ (j 1))

/-! ## One trip's stores -/

theorem pieces1 (𝒱 : Variants) (c : Dev nD) (bd : Option 𝒱.V) (i : grid0.Coords) (arg1 : Memref sig .tc .vmem S1x3x2048 .f32) (harg1 : arg1.IsWhole) (arg2 : Memref sig .tc .vmem S1x3x2048 .f32) (harg2 : arg2.IsWhole) (arg3 : Memref sig .tc .vmem S1x2048x3 .f32) (harg3 : arg3.IsWhole) (arg4 : Memref sig .tc .vmem S128x1 .i32) (harg4 : arg4.IsWhole) (arg5 : Memref sig .tc .vmem S3x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S3x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x3 .f32) (harg14 : arg14.IsWhole) (arg15 : Memref sig .tc .vmem S1x3 .f32) (harg15 : arg15.IsWhole) (arg16 : Memref sig .tc .smem S1x1 .f32) (harg16 : arg16.IsWhole) (arg17 : Memref sig .tc .vmem S4096x2048 .bf16) (harg17 : arg17.IsWhole) (arg18 : Memref sig .tc .vmem S128x2048 .f32) (harg18 : arg18.IsWhole) (arg19 : Memref sig .tc .vmem S2048x6 .bf16) (harg19 : arg19.IsWhole) (arg20 : Memref sig .tc .vmem S2048x6 .bf16) (harg20 : arg20.IsWhole) (v1 : FVec F S3x2048 .f32) (v3 : FVec F S3x2048 .f32) (v10 : FVec F S3x2048 .bf16) (v13 : FVec F S3x2048 .bf16) (v14 : FVec F S9x2048 .bf16) (v15 : FVec F S9x2048 .bf16) (v24 : FVec F S128x3 .f32) (v34 : FVec F S128x128 .f32) (v37 : FVec F S128x128 .f32) (X_arg3 : BufTy.Contents (Elt F) arg3.view.ty) (k : Fin k0_t1_loop.trips) f17 f18 f19 f20 :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 v3 v10 v13 v14 v15 v24 v34 v37 X_arg3 k f17 f18 f19 f20 =
     ([⟨Rect.unit (s := S4096x2048) (k0_off1 k) S128x2048.size (k0_off1_inb k), k0_pay4 (arg18.view.read (Elt F) f18)⟩],
      [⟨Rect.unit (s := S128x2048) ![0, 0] S128x2048.size inb_S128x2048_S128x2048_0_0, k0_pay5 (arg18.view.read (Elt F) f18)⟩],
      [⟨Rect.unit (s := S2048x6) (k0_off3 k) S256x6.size (k0_off3_inb k), rowsHi v3 v10 v13 v15 (arg3.view.read (Elt F) X_arg3) k⟩],
      [⟨Rect.unit (s := S2048x6) (k0_off3 k) S256x6.size (k0_off3_inb k), rowsLo v3 v10 v13 v15 (arg3.view.read (Elt F) X_arg3) k⟩]) := by
  unfold tripL_k0_t1 trip_k0_t1
  dsimp only
  rw [show View.readAt (Elt F) arg18.view (Rect.unit (s := S128x2048) ![0, 0] S128x2048.size inb_S128x2048_S128x2048_0_0).toLoadRect f18 = arg18.view.read (Elt F) f18 from
    View.ld_unit_zero (by funext a; fin_cases a <;> rfl) _ _]
  rfl

theorem pieces2 (𝒱 : Variants) (c : Dev nD) (bd : Option 𝒱.V) (i : grid0.Coords) (arg1 : Memref sig .tc .vmem S1x3x2048 .f32) (harg1 : arg1.IsWhole) (arg2 : Memref sig .tc .vmem S1x3x2048 .f32) (harg2 : arg2.IsWhole) (arg3 : Memref sig .tc .vmem S1x2048x3 .f32) (harg3 : arg3.IsWhole) (arg4 : Memref sig .tc .vmem S128x1 .i32) (harg4 : arg4.IsWhole) (arg5 : Memref sig .tc .vmem S3x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S3x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x3 .f32) (harg14 : arg14.IsWhole) (arg15 : Memref sig .tc .vmem S1x3 .f32) (harg15 : arg15.IsWhole) (arg16 : Memref sig .tc .smem S1x1 .f32) (harg16 : arg16.IsWhole) (arg17 : Memref sig .tc .vmem S4096x2048 .bf16) (harg17 : arg17.IsWhole) (arg18 : Memref sig .tc .vmem S128x2048 .f32) (harg18 : arg18.IsWhole) (arg19 : Memref sig .tc .vmem S2048x6 .bf16) (harg19 : arg19.IsWhole) (arg20 : Memref sig .tc .vmem S2048x6 .bf16) (harg20 : arg20.IsWhole) (v1 : FVec F S3x2048 .f32) (v3 : FVec F S3x2048 .f32) (v10 : FVec F S3x2048 .bf16) (v13 : FVec F S3x2048 .bf16) (v14 : FVec F S9x2048 .bf16) (v15 : FVec F S9x2048 .bf16) (v24 : FVec F S128x3 .f32) (v34 : FVec F S128x128 .f32) (v37 : FVec F S128x128 .f32) (k : Fin k0_t2_loop.trips) f17 f18 :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 v3 v10 v13 v14 v15 v24 v34 v37 k f17 f18 =
     ([⟨Rect.unit (s := S4096x2048) (k0_off4 k) S128x2048.size (k0_off4_inb k), k0_pay4 (arg18.view.read (Elt F) f18)⟩],
      [⟨Rect.unit (s := S128x2048) ![0, 0] S128x2048.size inb_S128x2048_S128x2048_0_0, k0_pay5 (arg18.view.read (Elt F) f18)⟩]) := by
  unfold tripL_k0_t2 trip_k0_t2
  dsimp only
  rw [show View.readAt (Elt F) arg18.view (Rect.unit (s := S128x2048) ![0, 0] S128x2048.size inb_S128x2048_S128x2048_0_0).toLoadRect f18 = arg18.view.read (Elt F) f18 from
    View.ld_unit_zero (by funext a; fin_cases a <;> rfl) _ _]
  rfl

/-! ## The loops' contents, trip by trip -/

theorem loop1 (𝒱 : Variants) (c : Dev nD) (bd : Option 𝒱.V) (i : grid0.Coords) (arg1 : Memref sig .tc .vmem S1x3x2048 .f32) (harg1 : arg1.IsWhole) (arg2 : Memref sig .tc .vmem S1x3x2048 .f32) (harg2 : arg2.IsWhole) (arg3 : Memref sig .tc .vmem S1x2048x3 .f32) (harg3 : arg3.IsWhole) (arg4 : Memref sig .tc .vmem S128x1 .i32) (harg4 : arg4.IsWhole) (arg5 : Memref sig .tc .vmem S3x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S3x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x3 .f32) (harg14 : arg14.IsWhole) (arg15 : Memref sig .tc .vmem S1x3 .f32) (harg15 : arg15.IsWhole) (arg16 : Memref sig .tc .smem S1x1 .f32) (harg16 : arg16.IsWhole) (arg17 : Memref sig .tc .vmem S4096x2048 .bf16) (harg17 : arg17.IsWhole) (arg18 : Memref sig .tc .vmem S128x2048 .f32) (harg18 : arg18.IsWhole) (arg19 : Memref sig .tc .vmem S2048x6 .bf16) (harg19 : arg19.IsWhole) (arg20 : Memref sig .tc .vmem S2048x6 .bf16) (harg20 : arg20.IsWhole) (v1 : FVec F S3x2048 .f32) (v3 : FVec F S3x2048 .f32) (v10 : FVec F S3x2048 .bf16) (v13 : FVec F S3x2048 .bf16) (v14 : FVec F S9x2048 .bf16) (v15 : FVec F S9x2048 .bf16) (v24 : FVec F S128x3 .f32) (v34 : FVec F S128x128 .f32) (v37 : FVec F S128x128 .f32) (X_arg3 : BufTy.Contents (Elt F) arg3.view.ty) (G17 : BufTy.Contents (Elt F) arg17.view.ty) (G18 : BufTy.Contents (Elt F) arg18.view.ty) (G19 : BufTy.Contents (Elt F) arg19.view.ty) (G20 : BufTy.Contents (Elt F) arg20.view.ty) (k : ℕ) (hk : k ≤ k0_t1_loop.trips) :
    let pb := pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 v3 v10 v13 v14 v15 v24 v34 v37 X_arg3 G17 G18 G19 G20 k
    (∀ j, (j 0).val < 128 * k → arg17.view.read (Elt F) (arg17.view.writes (Elt F) G17 pb.1) j = sel (arg18.view.read (Elt F) G18) j)
    ∧ arg18.view.read (Elt F) (arg18.view.writes (Elt F) G18 pb.2.1) = dist (arg18.view.read (Elt F) G18) k
    ∧ (∀ j, (j 0).val < 256 * k → arg19.view.read (Elt F) (arg19.view.writes (Elt F) G19 pb.2.2.1) j = tabHi v3 v10 v13 v15 (arg3.view.read (Elt F) X_arg3) j)
    ∧ (∀ j, (j 0).val < 256 * k → arg20.view.read (Elt F) (arg20.view.writes (Elt F) G20 pb.2.2.2) j = tabLo v3 v10 v13 v15 (arg3.view.read (Elt F) X_arg3) j) := by
  induction k with
  | zero => exact ⟨fun j h => absurd h (by omega), rfl, fun j h => absurd h (by omega), fun j h => absurd h (by omega)⟩
  | succ k ih =>
    have hk' : k < k0_t1_loop.trips := hk
    obtain ⟨h17, h18, h19, h20⟩ := ih (le_of_lt hk')
    have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 v3 v10 v13 v14 v15 v24 v34 v37 X_arg3 G17 G18 G19 G20 ⟨k, hk'⟩
    rw [pieces1] at hs
    dsimp only at hs
    rw [h18] at hs
    dsimp only
    rw [hs]
    dsimp only [List.cons_append, List.nil_append]
    have o1 := k0_off1_eq ⟨k, hk'⟩
    have o3 := k0_off3_eq ⟨k, hk'⟩
    dsimp only at o1 o3
    refine ⟨fun j h => ?_, ?_, fun j h => ?_, fun j h => ?_⟩
    · by_cases hj : (j 0).val < 128 * k
      · exact (View.read_writes_cons_rows_of_not_mem (d := ![4096, 2048]) (W := 128) _ _ _ _ _ j o1 rfl (Or.inl hj)).trans (h17 j hj)
      · have e : (j 0).val / 128 = k := by omega
        refine (View.read_writes_cons_rows_of_mem (d := ![4096, 2048]) _ _ _ _ _ j (ix2 ⟨(j 0).val % 128, Nat.mod_lt _ (by norm_num)⟩ (j 1)) o1 ?_ rfl).trans ?_
        · show (j 0).val = 128 * k + (j 0).val % 128
          omega
        · unfold sel; rw [e]; rfl
    · funext j
      exact View.read_writes_cons_rows_of_mem (d := ![128, 2048]) _ _ _ _ _ j j rfl (Nat.zero_add _).symm rfl
    · by_cases hj : (j 0).val < 256 * k
      · exact (View.read_writes_cons_rows_of_not_mem (d := ![2048, 6]) (W := 256) _ _ _ _ _ j o3 rfl (Or.inl hj)).trans (h19 j hj)
      · have e : (j 0).val / 256 = k := by omega
        refine (View.read_writes_cons_rows_of_mem (d := ![2048, 6]) _ _ _ _ _ j (ix2 ⟨(j 0).val % 256, Nat.mod_lt _ (by norm_num)⟩ (j 1)) o3 ?_ rfl).trans ?_
        · show (j 0).val = 256 * k + (j 0).val % 256
          omega
        · unfold tabHi; simp only [e]; rfl
    · by_cases hj : (j 0).val < 256 * k
      · exact (View.read_writes_cons_rows_of_not_mem (d := ![2048, 6]) (W := 256) _ _ _ _ _ j o3 rfl (Or.inl hj)).trans (h20 j hj)
      · have e : (j 0).val / 256 = k := by omega
        refine (View.read_writes_cons_rows_of_mem (d := ![2048, 6]) _ _ _ _ _ j (ix2 ⟨(j 0).val % 256, Nat.mod_lt _ (by norm_num)⟩ (j 1)) o3 ?_ rfl).trans ?_
        · show (j 0).val = 256 * k + (j 0).val % 256
          omega
        · unfold tabLo; simp only [e]; rfl

theorem loop2 (𝒱 : Variants) (c : Dev nD) (bd : Option 𝒱.V) (i : grid0.Coords) (arg1 : Memref sig .tc .vmem S1x3x2048 .f32) (harg1 : arg1.IsWhole) (arg2 : Memref sig .tc .vmem S1x3x2048 .f32) (harg2 : arg2.IsWhole) (arg3 : Memref sig .tc .vmem S1x2048x3 .f32) (harg3 : arg3.IsWhole) (arg4 : Memref sig .tc .vmem S128x1 .i32) (harg4 : arg4.IsWhole) (arg5 : Memref sig .tc .vmem S3x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S3x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x3 .f32) (harg14 : arg14.IsWhole) (arg15 : Memref sig .tc .vmem S1x3 .f32) (harg15 : arg15.IsWhole) (arg16 : Memref sig .tc .smem S1x1 .f32) (harg16 : arg16.IsWhole) (arg17 : Memref sig .tc .vmem S4096x2048 .bf16) (harg17 : arg17.IsWhole) (arg18 : Memref sig .tc .vmem S128x2048 .f32) (harg18 : arg18.IsWhole) (arg19 : Memref sig .tc .vmem S2048x6 .bf16) (harg19 : arg19.IsWhole) (arg20 : Memref sig .tc .vmem S2048x6 .bf16) (harg20 : arg20.IsWhole) (v1 : FVec F S3x2048 .f32) (v3 : FVec F S3x2048 .f32) (v10 : FVec F S3x2048 .bf16) (v13 : FVec F S3x2048 .bf16) (v14 : FVec F S9x2048 .bf16) (v15 : FVec F S9x2048 .bf16) (v24 : FVec F S128x3 .f32) (v34 : FVec F S128x128 .f32) (v37 : FVec F S128x128 .f32) (d : FVec F S128x2048 .f32) (G17 : BufTy.Contents (Elt F) arg17.view.ty) (G18 : BufTy.Contents (Elt F) arg18.view.ty)
    (h17 : ∀ j, (j 0).val < 1024 → arg17.view.read (Elt F) G17 j = sel d j) (h18 : arg18.view.read (Elt F) G18 = dist d 8) (k : ℕ) (hk : k ≤ k0_t2_loop.trips) :
    let pb := pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 v3 v10 v13 v14 v15 v24 v34 v37 G17 G18 k
    (∀ j, (j 0).val < 128 * k + 1024 → arg17.view.read (Elt F) (arg17.view.writes (Elt F) G17 pb.1) j = sel d j)
    ∧ arg18.view.read (Elt F) (arg18.view.writes (Elt F) G18 pb.2) = dist d (8 + k) := by
  induction k with
  | zero => exact ⟨fun j h => h17 j (by omega), h18⟩
  | succ k ih =>
    have hk' : k < k0_t2_loop.trips := hk
    obtain ⟨i17, i18⟩ := ih (le_of_lt hk')
    have hs := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 v3 v10 v13 v14 v15 v24 v34 v37 G17 G18 ⟨k, hk'⟩
    rw [pieces2] at hs
    dsimp only at hs
    rw [i18] at hs
    dsimp only
    rw [hs]
    dsimp only [List.cons_append, List.nil_append]
    have o1 := k0_off4_eq ⟨k, hk'⟩
    dsimp only at o1
    refine ⟨fun j h => ?_, ?_⟩
    · by_cases hj : (j 0).val < 128 * k + 1024
      · exact (View.read_writes_cons_rows_of_not_mem (d := ![4096, 2048]) (W := 128) _ _ _ _ _ j o1 rfl (Or.inl hj)).trans (i17 j hj)
      · have e : (j 0).val / 128 = 8 + k := by omega
        refine (View.read_writes_cons_rows_of_mem (d := ![4096, 2048]) _ _ _ _ _ j (ix2 ⟨(j 0).val % 128, Nat.mod_lt _ (by norm_num)⟩ (j 1)) o1 ?_ rfl).trans ?_
        · show (j 0).val = 128 * k + 1024 + (j 0).val % 128
          omega
        · unfold sel; rw [e]; rfl
    · funext j
      exact View.read_writes_cons_rows_of_mem (d := ![128, 2048]) _ _ _ _ _ j j rfl (Nat.zero_add _).symm rfl

end Cert.KernelIdeal.Own

end
-- ==== Proof.Body.lean ====
module

public import proofs.«01_k».proof.Proof.Loops
public import proofs.«01_k».proof.Proof.Gen.KernelIdeal.Frame

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The kernel resets its total: at the first grid point only. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The kernel scales its total: at the last grid point only. -/
abbrev cond0_1 (i : grid0.Coords) : Prop := (Scalar.cmpi .ne (Scalar.extui (Scalar.cmpi .eq (BitVec.ofNat 32 (i 0).val) 7#32)) 0#32) = 1#1
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, e0]
    word_cmp
   : ∀ t : Fin grid0.N, cond0_1 (grid0.coords t) ↔ t.val % 8 = 7)

/-! ## The staging buffers and the scratch -/

/-- The staging buffer of each window at a grid point, and that it is a whole buffer. -/
abbrev ms0_0 (t : Fin cfg0.N) : Memref sig .tc .vmem S1x3x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x3 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x3 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .smem S1x1 .f32 := win0_15.stage (cfg0.slots t 15)
abbrev hs0_15 (t : Fin cfg0.N) : (ms0_15 t).IsWhole := hstage0_15 ((cfg0.slots t 15).cast nbuf0_15)
/-- The scratch buffers. -/
abbrev scM0_0 : Memref sig .tc .vmem S4096x2048 .bf16 := Memref.whole cc0_scratch0
abbrev scM0_1 : Memref sig .tc .vmem S128x2048 .f32 := Memref.whole cc0_scratch1
abbrev scM0_2 : Memref sig .tc .vmem S2048x6 .bf16 := Memref.whole cc0_scratch2
abbrev scM0_3 : Memref sig .tc .vmem S2048x6 .bf16 := Memref.whole cc0_scratch3

/-- What is kept between grid points: the scratch buffers, at any contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## One grid point's squared differences -/

/-- The squared differences of one batch element, from the blocks its grid point reads. -/
def sq (x0 : Vec F S1x3x2048 .f32) (x1 : Vec F S1x3x2048 .f32) (x2 : Vec F S1x2048x3 .f32) (x3 : Vec F S128x1 .i32) (x4 : Vec F S3x128 .f32) (x5 : Vec F S1x128 .f32) (x6 : Vec F S128x128 .f32) (x7 : Vec F S1x128 .f32) (x8 : Vec F S3x128 .f32) (x9 : Vec F S128x128 .f32) (x10 : Vec F S1x128 .f32) (x11 : Vec F S128x128 .f32) (x12 : Vec F S1x128 .f32) (x13 : Vec F S128x3 .f32) (x14 : Vec F S1x3 .f32) : FVec F S1x4096x3 .f32 :=
  k0_pay30 (k0_pay17 x0 x3) (k0_pay20 (k0_pay18 x0 x3 x4 x5 x6) (k0_pay19 x7) x9)
    (sel (k0_pay22 (k0_pay9 x0) (k0_pay15 x0) (k0_pay17 x0 x3)))
    (tabHi (k0_pay10 x1) (k0_pay13 x1) (k0_pay14 x1) (k0_pay16 x1) x2)
    (tabLo (k0_pay10 x1) (k0_pay13 x1) (k0_pay14 x1) (k0_pay16 x1) x2) x8 x10 x11 x12 x13 x14

theorem ld_whole2 {d : Fin 2 → ℕ} {Val : EltTy → Type} {e : EltTy} (inb) (X : (⟨2, d⟩ : Shape).Idx → Val e) :
    View.ld (Val := Val) (e' := e) X (Rect.unit (s := ⟨2, d⟩) ![0, 0] (Shape.size ⟨2, d⟩) inb) = X :=
  View.ld_unit_zero (by funext a; fin_cases a <;> rfl) _ _

theorem ld_whole3 {d : Fin 3 → ℕ} {Val : EltTy → Type} {e : EltTy} (inb) (X : (⟨3, d⟩ : Shape).Idx → Val e) :
    View.ld (Val := Val) (e' := e) X (Rect.unit (s := ⟨3, d⟩) ![0, 0, 0] (Shape.size ⟨3, d⟩) inb) = X :=
  View.ld_unit_zero (by funext a; fin_cases a <;> rfl) _ _

theorem one_idx (z w : (⟨2, ![1, 1]⟩ : Shape).Idx) : z = w := by
  rw [eq_ix2 z, eq_ix2 w]
  exact congrArg₂ ix2 (Subsingleton.elim (α := Fin 1) _ _) (Subsingleton.elim (α := Fin 1) _ _)

theorem tables (c : Dev nD) (i : grid0.Coords) (arg1 : Memref sig .tc .vmem S1x3x2048 .f32) (harg1 : arg1.IsWhole) (arg2 : Memref sig .tc .vmem S1x3x2048 .f32) (harg2 : arg2.IsWhole) (arg3 : Memref sig .tc .vmem S1x2048x3 .f32) (harg3 : arg3.IsWhole) (arg4 : Memref sig .tc .vmem S128x1 .i32) (harg4 : arg4.IsWhole) (arg5 : Memref sig .tc .vmem S3x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S3x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x3 .f32) (harg14 : arg14.IsWhole) (arg15 : Memref sig .tc .vmem S1x3 .f32) (harg15 : arg15.IsWhole) (arg16 : Memref sig .tc .smem S1x1 .f32) (harg16 : arg16.IsWhole) (arg17 : Memref sig .tc .vmem S4096x2048 .bf16) (harg17 : arg17.IsWhole) (arg18 : Memref sig .tc .vmem S128x2048 .f32) (harg18 : arg18.IsWhole) (arg19 : Memref sig .tc .vmem S2048x6 .bf16) (harg19 : arg19.IsWhole) (arg20 : Memref sig .tc .vmem S2048x6 .bf16) (harg20 : arg20.IsWhole) (v1 : FVec F S3x2048 .f32) (v3 : FVec F S3x2048 .f32) (v10 : FVec F S3x2048 .bf16) (v13 : FVec F S3x2048 .bf16) (v14 : FVec F S9x2048 .bf16) (v15 : FVec F S9x2048 .bf16) (v24 : FVec F S128x3 .f32) (v34 : FVec F S128x128 .f32) (v37 : FVec F S128x128 .f32) (x2 : Vec F S1x2048x3 .f32) (d : FVec F S128x2048 .f32)
    (fs0 : BufTy.Contents (Elt F) arg17.view.ty) (fs2 : BufTy.Contents (Elt F) arg19.view.ty) (fs3 : BufTy.Contents (Elt F) arg20.view.ty)
    (p1 : List (View.Piece (Elt F) S4096x2048 .bf16) × List (View.Piece (Elt F) S128x2048 .f32) × List (View.Piece (Elt F) S2048x6 .bf16) × List (View.Piece (Elt F) S2048x6 .bf16))
    (hp1 : p1 = pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 v3 v10 v13 v14 v15 v24 v34 v37 (harg3.unread x2) fs0 (arg18.view.writes (Elt F) arg18.view.junk [⟨Rect.unit (s := S128x2048) ![0, 0] S128x2048.size inb_S128x2048_S128x2048_0_0, d⟩]) fs2 fs3 k0_t1_loop.trips) :
    View.readAt (Elt F) arg17.view (Rect.unit (s := S4096x2048) ![0, 0] S4096x2048.size inb_S4096x2048_S4096x2048_0_0).toLoadRect
      (arg17.view.writes (Elt F) fs0 ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 v3 v10 v13 v14 v15 v24 v34 v37 (arg17.view.writes (Elt F) fs0 p1.1) (arg18.view.writes (Elt F) arg18.view.junk (p1.2.1 ++ [⟨Rect.unit (s := S128x2048) ![0, 0] S128x2048.size inb_S128x2048_S128x2048_0_0, d⟩])) k0_t2_loop.trips).1 ++ p1.1)) = sel d
    ∧ View.readAt (Elt F) arg19.view (Rect.unit (s := S2048x6) ![0, 0] S2048x6.size inb_S2048x6_S2048x6_0_0).toLoadRect (arg19.view.writes (Elt F) fs2 p1.2.2.1) = tabHi v3 v10 v13 v15 x2
    ∧ View.readAt (Elt F) arg20.view (Rect.unit (s := S2048x6) ![0, 0] S2048x6.size inb_S2048x6_S2048x6_0_0).toLoadRect (arg20.view.writes (Elt F) fs3 p1.2.2.2) = tabLo v3 v10 v13 v15 x2 := by
  have hd : arg18.view.read (Elt F) (arg18.view.writes (Elt F) arg18.view.junk [⟨Rect.unit (s := S128x2048) ![0, 0] S128x2048.size inb_S128x2048_S128x2048_0_0, d⟩]) = d := by
    funext j
    exact View.read_writes_cons_rows_of_mem (d := ![128, 2048]) _ _ _ _ _ j j rfl (Nat.zero_add _).symm rfl
  obtain ⟨h17, h18, h19, h20⟩ := loop1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 v3 v10 v13 v14 v15 v24 v34 v37 (harg3.unread x2) fs0 (arg18.view.writes (Elt F) arg18.view.junk [⟨Rect.unit (s := S128x2048) ![0, 0] S128x2048.size inb_S128x2048_S128x2048_0_0, d⟩]) fs2 fs3 k0_t1_loop.trips le_rfl
  rw [← hp1, hd] at h17 h18
  rw [← hp1, harg3.read_unread x2] at h19 h20
  rw [trips1] at h17 h18 h19 h20
  refine ⟨?_, ?_, ?_⟩
  · refine (ld_whole2 (Val := Elt F) _ _).trans ?_
    rw [View.writes_append, View.writes_append]
    obtain ⟨q17, -⟩ := loop2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 v3 v10 v13 v14 v15 v24 v34 v37 d (arg17.view.writes (Elt F) fs0 p1.1) (arg18.view.writes (Elt F) (arg18.view.writes (Elt F) arg18.view.junk [⟨Rect.unit (s := S128x2048) ![0, 0] S128x2048.size inb_S128x2048_S128x2048_0_0, d⟩]) p1.2.1)
      (fun j h => h17 j (by omega)) h18 k0_t2_loop.trips le_rfl
    funext j
    refine q17 j ?_
    have := idx2_lt0 j
    rw [trips2]; omega
  · refine (ld_whole2 (Val := Elt F) _ _).trans (funext fun j => h19 j ?_)
    have := idx2_lt0 j
    omega
  · refine (ld_whole2 (Val := Elt F) _ _).trans (funext fun j => h20 j ?_)
    have := idx2_lt0 j
    omega

end Cert.KernelIdeal.Own

end
-- ==== Proof.RunA.lean ====
module

public import proofs.«01_k».proof.Proof.Body

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The kernel body at the first grid point: the inputs are as they were, the total is the old one plus this
    point's squared differences (from zero). -/
theorem runA (c : Dev nD) (i : grid0.Coords) (arg1 : Memref sig .tc .vmem S1x3x2048 .f32) (harg1 : arg1.IsWhole) (arg2 : Memref sig .tc .vmem S1x3x2048 .f32) (harg2 : arg2.IsWhole) (arg3 : Memref sig .tc .vmem S1x2048x3 .f32) (harg3 : arg3.IsWhole) (arg4 : Memref sig .tc .vmem S128x1 .i32) (harg4 : arg4.IsWhole) (arg5 : Memref sig .tc .vmem S3x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S3x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x3 .f32) (harg14 : arg14.IsWhole) (arg15 : Memref sig .tc .vmem S1x3 .f32) (harg15 : arg15.IsWhole) (arg16 : Memref sig .tc .smem S1x1 .f32) (harg16 : arg16.IsWhole) (arg17 : Memref sig .tc .vmem S4096x2048 .bf16) (harg17 : arg17.IsWhole) (arg18 : Memref sig .tc .vmem S128x2048 .f32) (harg18 : arg18.IsWhole) (arg19 : Memref sig .tc .vmem S2048x6 .bf16) (harg19 : arg19.IsWhole) (arg20 : Memref sig .tc .vmem S2048x6 .bf16) (harg20 : arg20.IsWhole) (hc0 : cond0_0 i) (hc1 : ¬cond0_1 i)
    (x0 : Vec F S1x3x2048 .f32) (x1 : Vec F S1x3x2048 .f32) (x2 : Vec F S1x2048x3 .f32) (x3 : Vec F S128x1 .i32) (x4 : Vec F S3x128 .f32) (x5 : Vec F S1x128 .f32) (x6 : Vec F S128x128 .f32) (x7 : Vec F S1x128 .f32) (x8 : Vec F S3x128 .f32) (x9 : Vec F S128x128 .f32) (x10 : Vec F S1x128 .f32) (x11 : Vec F S128x128 .f32) (x12 : Vec F S1x128 .f32) (x13 : Vec F S128x3 .f32) (x14 : Vec F S1x3 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (fun _ => k0_pay1 (sq x0 x1 x2 x3 x4 x5 x6 x7 x8 x9 x10 x11 x12 x13 x14) (Scalar.ofBits .f32 0x00000000#32)) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__dn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__dn_body_eq_skeleton]; unfold cc0__dn_body_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; swap; · iexact H15
      ipureintro
      funext j
      refine (View.read_writes_cons_rows_of_mem (d := ![1, 1]) _ _ _ _ _ j j rfl (Nat.zero_add _).symm rfl).trans ?_
      sl_unfold_words
      have e0 : View.readAt (Elt F) arg1.view (Rect.unit (s := S1x3x2048) ![0, 0, 0] S1x3x2048.size inb_S1x3x2048_S1x3x2048_0_0_0).toLoadRect (harg1.unread x0) = x0 :=
        (ld_whole3 (Val := Elt F) _ _).trans (harg1.read_unread x0)
      have e1 : View.readAt (Elt F) arg2.view (Rect.unit (s := S1x3x2048) ![0, 0, 0] S1x3x2048.size inb_S1x3x2048_S1x3x2048_0_0_0).toLoadRect (harg2.unread x1) = x1 :=
        (ld_whole3 (Val := Elt F) _ _).trans (harg2.read_unread x1)
      have e3 : View.readAt (Elt F) arg4.view (Rect.unit (s := S128x1) ![0, 0] S128x1.size inb_S128x1_S128x1_0_0).toLoadRect (harg4.unread x3) = x3 :=
        (ld_whole2 (Val := Elt F) _ _).trans (harg4.read_unread x3)
      have e4 : View.readAt (Elt F) arg5.view (Rect.unit (s := S3x128) ![0, 0] S3x128.size inb_S3x128_S3x128_0_0).toLoadRect (harg5.unread x4) = x4 :=
        (ld_whole2 (Val := Elt F) _ _).trans (harg5.read_unread x4)
      have e5 : View.readAt (Elt F) arg6.view (Rect.unit (s := S1x128) ![0, 0] S1x128.size inb_S1x128_S1x128_0_0).toLoadRect (harg6.unread x5) = x5 :=
        (ld_whole2 (Val := Elt F) _ _).trans (harg6.read_unread x5)
      have e6 : View.readAt (Elt F) arg7.view (Rect.unit (s := S128x128) ![0, 0] S128x128.size inb_S128x128_S128x128_0_0).toLoadRect (harg7.unread x6) = x6 :=
        (ld_whole2 (Val := Elt F) _ _).trans (harg7.read_unread x6)
      have e7 : View.readAt (Elt F) arg8.view (Rect.unit (s := S1x128) ![0, 0] S1x128.size inb_S1x128_S1x128_0_0).toLoadRect (harg8.unread x7) = x7 :=
        (ld_whole2 (Val := Elt F) _ _).trans (harg8.read_unread x7)
      have e8 : View.readAt (Elt F) arg9.view (Rect.unit (s := S3x128) ![0, 0] S3x128.size inb_S3x128_S3x128_0_0).toLoadRect (harg9.unread x8) = x8 :=
        (ld_whole2 (Val := Elt F) _ _).trans (harg9.read_unread x8)
      have e9 : View.readAt (Elt F) arg10.view (Rect.unit (s := S128x128) ![0, 0] S128x128.size inb_S128x128_S128x128_0_0).toLoadRect (harg10.unread x9) = x9 :=
        (ld_whole2 (Val := Elt F) _ _).trans (harg10.read_unread x9)
      have e10 : View.readAt (Elt F) arg11.view (Rect.unit (s := S1x128) ![0, 0] S1x128.size inb_S1x128_S1x128_0_0).toLoadRect (harg11.unread x10) = x10 :=
        (ld_whole2 (Val := Elt F) _ _).trans (harg11.read_unread x10)
      have e11 : View.readAt (Elt F) arg12.view (Rect.unit (s := S128x128) ![0, 0] S128x128.size inb_S128x128_S128x128_0_0).toLoadRect (harg12.unread x11) = x11 :=
        (ld_whole2 (Val := Elt F) _ _).trans (harg12.read_unread x11)
      have e12 : View.readAt (Elt F) arg13.view (Rect.unit (s := S1x128) ![0, 0] S1x128.size inb_S1x128_S1x128_0_0).toLoadRect (harg13.unread x12) = x12 :=
        (ld_whole2 (Val := Elt F) _ _).trans (harg13.read_unread x12)
      have e13 : View.readAt (Elt F) arg14.view (Rect.unit (s := S128x3) ![0, 0] S128x3.size inb_S128x3_S128x3_0_0).toLoadRect (harg14.unread x13) = x13 :=
        (ld_whole2 (Val := Elt F) _ _).trans (harg14.read_unread x13)
      have e14 : View.readAt (Elt F) arg15.view (Rect.unit (s := S1x3) ![0, 0] S1x3.size inb_S1x3_S1x3_0_0).toLoadRect (harg15.unread x14) = x14 :=
        (ld_whole2 (Val := Elt F) _ _).trans (harg15.read_unread x14)
      simp only [e0, e1, e3, e4, e5, e6, e7, e8, e9, e10, e11, e12, e13, e14]
      obtain ⟨hA, hB, hC⟩ := tables c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (k0_pay9 x0) (k0_pay10 x1) (k0_pay13 x1) (k0_pay14 x1) (k0_pay15 x0) (k0_pay16 x1) (k0_pay17 x0 x3) (k0_pay18 x0 x3 x4 x5 x6) (k0_pay19 x7) x2 (k0_pay22 (k0_pay9 x0) (k0_pay15 x0) (k0_pay17 x0 x3)) fs0 fs2 fs3 _ rfl
      unfold sq
      rw [← hA, ← hB, ← hC]
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Own

end
-- ==== Proof.RunB.lean ====
module

public import proofs.«01_k».proof.Proof.Body

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The kernel body at a middle grid point: the inputs are as they were, the total is the old one plus this
    point's squared differences. -/
theorem runB (c : Dev nD) (i : grid0.Coords) (arg1 : Memref sig .tc .vmem S1x3x2048 .f32) (harg1 : arg1.IsWhole) (arg2 : Memref sig .tc .vmem S1x3x2048 .f32) (harg2 : arg2.IsWhole) (arg3 : Memref sig .tc .vmem S1x2048x3 .f32) (harg3 : arg3.IsWhole) (arg4 : Memref sig .tc .vmem S128x1 .i32) (harg4 : arg4.IsWhole) (arg5 : Memref sig .tc .vmem S3x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S3x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x3 .f32) (harg14 : arg14.IsWhole) (arg15 : Memref sig .tc .vmem S1x3 .f32) (harg15 : arg15.IsWhole) (arg16 : Memref sig .tc .smem S1x1 .f32) (harg16 : arg16.IsWhole) (arg17 : Memref sig .tc .vmem S4096x2048 .bf16) (harg17 : arg17.IsWhole) (arg18 : Memref sig .tc .vmem S128x2048 .f32) (harg18 : arg18.IsWhole) (arg19 : Memref sig .tc .vmem S2048x6 .bf16) (harg19 : arg19.IsWhole) (arg20 : Memref sig .tc .vmem S2048x6 .bf16) (harg20 : arg20.IsWhole) (hc0 : ¬cond0_0 i) (hc1 : ¬cond0_1 i)
    (x0 : Vec F S1x3x2048 .f32) (x1 : Vec F S1x3x2048 .f32) (x2 : Vec F S1x2048x3 .f32) (x3 : Vec F S128x1 .i32) (x4 : Vec F S3x128 .f32) (x5 : Vec F S1x128 .f32) (x6 : Vec F S128x128 .f32) (x7 : Vec F S1x128 .f32) (x8 : Vec F S3x128 .f32) (x9 : Vec F S128x128 .f32) (x10 : Vec F S1x128 .f32) (x11 : Vec F S128x128 .f32) (x12 : Vec F S1x128 .f32) (x13 : Vec F S128x3 .f32) (x14 : Vec F S1x3 .f32) (xo : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare xo ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (fun _ => k0_pay1 (sq x0 x1 x2 x3 x4 x5 x6 x7 x8 x9 x10 x11 x12 x13 x14) (xo (ix2 0 0))) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__dn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__dn_body_eq_skeleton]; unfold cc0__dn_body_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; swap; · iexact H15
      ipureintro
      funext j
      refine (View.read_writes_cons_rows_of_mem (d := ![1, 1]) _ _ _ _ _ j j rfl (Nat.zero_add _).symm rfl).trans ?_
      sl_unfold_words
      have e0 : View.readAt (Elt F) arg1.view (Rect.unit (s := S1x3x2048) ![0, 0, 0] S1x3x2048.size inb_S1x3x2048_S1x3x2048_0_0_0).toLoadRect (harg1.unread x0) = x0 :=
        (ld_whole3 (Val := Elt F) _ _).trans (harg1.read_unread x0)
      have e1 : View.readAt (Elt F) arg2.view (Rect.unit (s := S1x3x2048) ![0, 0, 0] S1x3x2048.size inb_S1x3x2048_S1x3x2048_0_0_0).toLoadRect (harg2.unread x1) = x1 :=
        (ld_whole3 (Val := Elt F) _ _).trans (harg2.read_unread x1)
      have e3 : View.readAt (Elt F) arg4.view (Rect.unit (s := S128x1) ![0, 0] S128x1.size inb_S128x1_S128x1_0_0).toLoadRect (harg4.unread x3) = x3 :=
        (ld_whole2 (Val := Elt F) _ _).trans (harg4.read_unread x3)
      have e4 : View.readAt (Elt F) arg5.view (Rect.unit (s := S3x128) ![0, 0] S3x128.size inb_S3x128_S3x128_0_0).toLoadRect (harg5.unread x4) = x4 :=
        (ld_whole2 (Val := Elt F) _ _).trans (harg5.read_unread x4)
      have e5 : View.readAt (Elt F) arg6.view (Rect.unit (s := S1x128) ![0, 0] S1x128.size inb_S1x128_S1x128_0_0).toLoadRect (harg6.unread x5) = x5 :=
        (ld_whole2 (Val := Elt F) _ _).trans (harg6.read_unread x5)
      have e6 : View.readAt (Elt F) arg7.view (Rect.unit (s := S128x128) ![0, 0] S128x128.size inb_S128x128_S128x128_0_0).toLoadRect (harg7.unread x6) = x6 :=
        (ld_whole2 (Val := Elt F) _ _).trans (harg7.read_unread x6)
      have e7 : View.readAt (Elt F) arg8.view (Rect.unit (s := S1x128) ![0, 0] S1x128.size inb_S1x128_S1x128_0_0).toLoadRect (harg8.unread x7) = x7 :=
        (ld_whole2 (Val := Elt F) _ _).trans (harg8.read_unread x7)
      have e8 : View.readAt (Elt F) arg9.view (Rect.unit (s := S3x128) ![0, 0] S3x128.size inb_S3x128_S3x128_0_0).toLoadRect (harg9.unread x8) = x8 :=
        (ld_whole2 (Val := Elt F) _ _).trans (harg9.read_unread x8)
      have e9 : View.readAt (Elt F) arg10.view (Rect.unit (s := S128x128) ![0, 0] S128x128.size inb_S128x128_S128x128_0_0).toLoadRect (harg10.unread x9) = x9 :=
        (ld_whole2 (Val := Elt F) _ _).trans (harg10.read_unread x9)
      have e10 : View.readAt (Elt F) arg11.view (Rect.unit (s := S1x128) ![0, 0] S1x128.size inb_S1x128_S1x128_0_0).toLoadRect (harg11.unread x10) = x10 :=
        (ld_whole2 (Val := Elt F) _ _).trans (harg11.read_unread x10)
      have e11 : View.readAt (Elt F) arg12.view (Rect.unit (s := S128x128) ![0, 0] S128x128.size inb_S128x128_S128x128_0_0).toLoadRect (harg12.unread x11) = x11 :=
        (ld_whole2 (Val := Elt F) _ _).trans (harg12.read_unread x11)
      have e12 : View.readAt (Elt F) arg13.view (Rect.unit (s := S1x128) ![0, 0] S1x128.size inb_S1x128_S1x128_0_0).toLoadRect (harg13.unread x12) = x12 :=
        (ld_whole2 (Val := Elt F) _ _).trans (harg13.read_unread x12)
      have e13 : View.readAt (Elt F) arg14.view (Rect.unit (s := S128x3) ![0, 0] S128x3.size inb_S128x3_S128x3_0_0).toLoadRect (harg14.unread x13) = x13 :=
        (ld_whole2 (Val := Elt F) _ _).trans (harg14.read_unread x13)
      have e14 : View.readAt (Elt F) arg15.view (Rect.unit (s := S1x3) ![0, 0] S1x3.size inb_S1x3_S1x3_0_0).toLoadRect (harg15.unread x14) = x14 :=
        (ld_whole2 (Val := Elt F) _ _).trans (harg15.read_unread x14)
      simp only [e0, e1, e3, e4, e5, e6, e7, e8, e9, e10, e11, e12, e13, e14]
      obtain ⟨hA, hB, hC⟩ := tables c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (k0_pay9 x0) (k0_pay10 x1) (k0_pay13 x1) (k0_pay14 x1) (k0_pay15 x0) (k0_pay16 x1) (k0_pay17 x0 x3) (k0_pay18 x0 x3 x4 x5 x6) (k0_pay19 x7) x2 (k0_pay22 (k0_pay9 x0) (k0_pay15 x0) (k0_pay17 x0 x3)) fs0 fs2 fs3 _ rfl
      have hx : ∀ z, (View.readAt (Elt F) arg16.view (Rect.unit (s := S1x1) ![0, 0] S1x1.size inb_S1x1_S1x1_0_0).toLoadRect (harg16.unread xo)) z = xo (ix2 0 0) := fun z =>
        (congrFun ((ld_whole2 (Val := Elt F) _ _).trans (harg16.read_unread xo)) z).trans (congrArg xo (one_idx _ _))
      simp only [hx]
      unfold sq
      rw [← hA, ← hB, ← hC]
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Own

end
-- ==== Proof.RunC.lean ====
module

public import proofs.«01_k».proof.Proof.Body

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The kernel body at the last grid point: the inputs are as they were, the total is the old one plus this
    point's squared differences, scaled. -/
theorem runC (c : Dev nD) (i : grid0.Coords) (arg1 : Memref sig .tc .vmem S1x3x2048 .f32) (harg1 : arg1.IsWhole) (arg2 : Memref sig .tc .vmem S1x3x2048 .f32) (harg2 : arg2.IsWhole) (arg3 : Memref sig .tc .vmem S1x2048x3 .f32) (harg3 : arg3.IsWhole) (arg4 : Memref sig .tc .vmem S128x1 .i32) (harg4 : arg4.IsWhole) (arg5 : Memref sig .tc .vmem S3x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S3x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S128x3 .f32) (harg14 : arg14.IsWhole) (arg15 : Memref sig .tc .vmem S1x3 .f32) (harg15 : arg15.IsWhole) (arg16 : Memref sig .tc .smem S1x1 .f32) (harg16 : arg16.IsWhole) (arg17 : Memref sig .tc .vmem S4096x2048 .bf16) (harg17 : arg17.IsWhole) (arg18 : Memref sig .tc .vmem S128x2048 .f32) (harg18 : arg18.IsWhole) (arg19 : Memref sig .tc .vmem S2048x6 .bf16) (harg19 : arg19.IsWhole) (arg20 : Memref sig .tc .vmem S2048x6 .bf16) (harg20 : arg20.IsWhole) (hc0 : ¬cond0_0 i) (hc1 : cond0_1 i)
    (x0 : Vec F S1x3x2048 .f32) (x1 : Vec F S1x3x2048 .f32) (x2 : Vec F S1x2048x3 .f32) (x3 : Vec F S128x1 .i32) (x4 : Vec F S3x128 .f32) (x5 : Vec F S1x128 .f32) (x6 : Vec F S128x128 .f32) (x7 : Vec F S1x128 .f32) (x8 : Vec F S3x128 .f32) (x9 : Vec F S128x128 .f32) (x10 : Vec F S1x128 .f32) (x11 : Vec F S128x128 .f32) (x12 : Vec F S1x128 .f32) (x13 : Vec F S128x3 .f32) (x14 : Vec F S1x3 .f32) (xo : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare xo ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (fun _ => k0_pay2 (k0_pay1 (sq x0 x1 x2 x3 x4 x5 x6 x7 x8 x9 x10 x11 x12 x13 x14) (xo (ix2 0 0)))) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__dn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__dn_body_eq_skeleton]; unfold cc0__dn_body_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; swap; · iexact H15
      ipureintro
      funext j
      refine (View.read_writes_cons_rows_of_mem (d := ![1, 1]) _ _ _ _ _ j j rfl (Nat.zero_add _).symm rfl).trans ?_
      sl_unfold_words
      have e0 : View.readAt (Elt F) arg1.view (Rect.unit (s := S1x3x2048) ![0, 0, 0] S1x3x2048.size inb_S1x3x2048_S1x3x2048_0_0_0).toLoadRect (harg1.unread x0) = x0 :=
        (ld_whole3 (Val := Elt F) _ _).trans (harg1.read_unread x0)
      have e1 : View.readAt (Elt F) arg2.view (Rect.unit (s := S1x3x2048) ![0, 0, 0] S1x3x2048.size inb_S1x3x2048_S1x3x2048_0_0_0).toLoadRect (harg2.unread x1) = x1 :=
        (ld_whole3 (Val := Elt F) _ _).trans (harg2.read_unread x1)
      have e3 : View.readAt (Elt F) arg4.view (Rect.unit (s := S128x1) ![0, 0] S128x1.size inb_S128x1_S128x1_0_0).toLoadRect (harg4.unread x3) = x3 :=
        (ld_whole2 (Val := Elt F) _ _).trans (harg4.read_unread x3)
      have e4 : View.readAt (Elt F) arg5.view (Rect.unit (s := S3x128) ![0, 0] S3x128.size inb_S3x128_S3x128_0_0).toLoadRect (harg5.unread x4) = x4 :=
        (ld_whole2 (Val := Elt F) _ _).trans (harg5.read_unread x4)
      have e5 : View.readAt (Elt F) arg6.view (Rect.unit (s := S1x128) ![0, 0] S1x128.size inb_S1x128_S1x128_0_0).toLoadRect (harg6.unread x5) = x5 :=
        (ld_whole2 (Val := Elt F) _ _).trans (harg6.read_unread x5)
      have e6 : View.readAt (Elt F) arg7.view (Rect.unit (s := S128x128) ![0, 0] S128x128.size inb_S128x128_S128x128_0_0).toLoadRect (harg7.unread x6) = x6 :=
        (ld_whole2 (Val := Elt F) _ _).trans (harg7.read_unread x6)
      have e7 : View.readAt (Elt F) arg8.view (Rect.unit (s := S1x128) ![0, 0] S1x128.size inb_S1x128_S1x128_0_0).toLoadRect (harg8.unread x7) = x7 :=
        (ld_whole2 (Val := Elt F) _ _).trans (harg8.read_unread x7)
      have e8 : View.readAt (Elt F) arg9.view (Rect.unit (s := S3x128) ![0, 0] S3x128.size inb_S3x128_S3x128_0_0).toLoadRect (harg9.unread x8) = x8 :=
        (ld_whole2 (Val := Elt F) _ _).trans (harg9.read_unread x8)
      have e9 : View.readAt (Elt F) arg10.view (Rect.unit (s := S128x128) ![0, 0] S128x128.size inb_S128x128_S128x128_0_0).toLoadRect (harg10.unread x9) = x9 :=
        (ld_whole2 (Val := Elt F) _ _).trans (harg10.read_unread x9)
      have e10 : View.readAt (Elt F) arg11.view (Rect.unit (s := S1x128) ![0, 0] S1x128.size inb_S1x128_S1x128_0_0).toLoadRect (harg11.unread x10) = x10 :=
        (ld_whole2 (Val := Elt F) _ _).trans (harg11.read_unread x10)
      have e11 : View.readAt (Elt F) arg12.view (Rect.unit (s := S128x128) ![0, 0] S128x128.size inb_S128x128_S128x128_0_0).toLoadRect (harg12.unread x11) = x11 :=
        (ld_whole2 (Val := Elt F) _ _).trans (harg12.read_unread x11)
      have e12 : View.readAt (Elt F) arg13.view (Rect.unit (s := S1x128) ![0, 0] S1x128.size inb_S1x128_S1x128_0_0).toLoadRect (harg13.unread x12) = x12 :=
        (ld_whole2 (Val := Elt F) _ _).trans (harg13.read_unread x12)
      have e13 : View.readAt (Elt F) arg14.view (Rect.unit (s := S128x3) ![0, 0] S128x3.size inb_S128x3_S128x3_0_0).toLoadRect (harg14.unread x13) = x13 :=
        (ld_whole2 (Val := Elt F) _ _).trans (harg14.read_unread x13)
      have e14 : View.readAt (Elt F) arg15.view (Rect.unit (s := S1x3) ![0, 0] S1x3.size inb_S1x3_S1x3_0_0).toLoadRect (harg15.unread x14) = x14 :=
        (ld_whole2 (Val := Elt F) _ _).trans (harg15.read_unread x14)
      simp only [e0, e1, e3, e4, e5, e6, e7, e8, e9, e10, e11, e12, e13, e14]
      obtain ⟨hA, hB, hC⟩ := tables c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (k0_pay9 x0) (k0_pay10 x1) (k0_pay13 x1) (k0_pay14 x1) (k0_pay15 x0) (k0_pay16 x1) (k0_pay17 x0 x3) (k0_pay18 x0 x3 x4 x5 x6) (k0_pay19 x7) x2 (k0_pay22 (k0_pay9 x0) (k0_pay15 x0) (k0_pay17 x0 x3)) fs0 fs2 fs3 _ rfl
      have hx : ∀ z, (View.readAt (Elt F) arg16.view (Rect.unit (s := S1x1) ![0, 0] S1x1.size inb_S1x1_S1x1_0_0).toLoadRect (harg16.unread xo)) z = xo (ix2 0 0) := fun z =>
        (congrFun ((ld_whole2 (Val := Elt F) _ _).trans (harg16.read_unread xo)) z).trans (congrArg xo (one_idx _ _))
      simp only [hx]
      unfold sq
      rw [← hA, ← hB, ← hC]
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Own

end
-- ==== Proof.Region.lean ====
module

public import proofs.«01_k».proof.Proof.RunA
public import proofs.«01_k».proof.Proof.RunB
public import proofs.«01_k».proof.Proof.RunC
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- The squared differences of the batch element that grid point `t` works on. -/
def sqAt (c : Dev nD) (t : Fin cfg0.N) : FVec F S1x4096x3 .f32 :=
  sq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The running total after grid point `n`. -/
def acc (c : Dev nD) : (n : ℕ) → n < cfg0.N → F .f32
  | 0, h => k0_pay1 (sqAt m c ⟨0, h⟩) (Scalar.ofBits .f32 0x00000000#32)
  | n + 1, h => k0_pay1 (sqAt m c ⟨n + 1, h⟩) (acc c n (Nat.lt_of_succ_lt h))

/-- What the total's buffer holds after grid point `t`: scaled at the last one. -/
def totalAt (c : Dev nD) (t : Fin cfg0.N) : Vec F S1x1 .f32 :=
  fun _ => if t.val % 8 = 7 then k0_pay2 (acc m c t.val t.isLt) else acc m c t.val t.isLt

/-- The total's buffer after the first grid point, -/
theorem totalAt_first (c : Dev nD) (t : Fin cfg0.N) (h0 : t.val % 8 = 0) :
    totalAt m c t = fun _ => k0_pay1 (sqAt m c t) (Scalar.ofBits .f32 0x00000000#32) := by
  have hN : t.val < 8 := lt_of_lt_of_eq t.isLt (show cfg0.N = 8 from N_0)
  obtain ⟨n, hn⟩ := t
  obtain rfl : n = 0 := by dsimp only at h0 hN; omega
  rfl

/-- after a middle one, -/
theorem totalAt_mid (c : Dev nD) (t : Fin cfg0.N) (h0 : ¬ t.val % 8 = 0) (h1 : ¬ t.val % 8 = 7) :
    totalAt m c t = fun _ => k0_pay1 (sqAt m c t) (acc m c (t.val - 1) (Nat.lt_of_le_of_lt (Nat.sub_le _ _) t.isLt)) := by
  obtain ⟨n, hn⟩ := t
  unfold totalAt
  funext _
  rw [if_neg h1]
  cases n with
  | zero => exact absurd rfl h0
  | succ n => rfl

/-- and after the last. -/
theorem totalAt_last (c : Dev nD) (t : Fin cfg0.N) (h0 : ¬ t.val % 8 = 0) (h1 : t.val % 8 = 7) :
    totalAt m c t = fun _ => k0_pay2 (k0_pay1 (sqAt m c t) (acc m c (t.val - 1) (Nat.lt_of_le_of_lt (Nat.sub_le _ _) t.isLt))) := by
  obtain ⟨n, hn⟩ := t
  unfold totalAt
  funext _
  rw [if_pos h1]
  cases n with
  | zero => exact absurd rfl h0
  | succ n => rfl

/-- The data of the one kernel call on core `c`: the arrays as it finds them; after each grid point the inputs
    unchanged and the running total. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => totalAt m c t
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- What each grid point leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]

theorem after0_15 (c : Dev nD) (t : Fin cfg0.N) : (dats m 0 c).after 15 t = totalAt m c t := by dsimp only [dats]

/-- Before a grid point other than the first, the total's buffer holds what the previous point left. -/
theorem before0_15 (c : Dev nD) (t : Fin cfg0.N) (ht : t.val ≠ 0) (d) :
    (dats m 0 c).before 15 t d = fun _ => acc m c (t.val - 1) (Nat.lt_of_le_of_lt (Nat.sub_le _ _) t.isLt) := by
  have hN : t.val < 8 := lt_of_lt_of_eq t.isLt (show cfg0.N = 8 from N_0)
  have hp : t.val - 1 < cfg0.N := Nat.lt_of_le_of_lt (Nat.sub_le _ _) t.isLt
  have h7 : ¬ (t.val - 1) % 8 = 7 := by omega
  rw [Pipeline.Dat.before_of_pos _ 15 t ht (by rfl)]
  rw [if_neg (fun h => h7 ((flush0_15 ⟨t.val - 1, hp⟩).mp h))]
  show (dats m 0 c).kept 15 ⟨t.val - 1, hp⟩ d = _
  unfold Pipeline.Dat.kept
  rw [after0_15]
  unfold totalAt
  funext j
  show (if (t.val - 1) % 8 = 7 then _ else _) = _
  rw [if_neg h7]

/-- Each input's buffer holds its block at every grid point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 6000000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  have hN : t.val < 8 := lt_of_lt_of_eq t.isLt (show cfg0.N = 8 from N_0)
  by_cases h0 : t.val % 8 = 0
  · by_cases h1 : t.val % 8 = 7
    · exfalso; omega
    · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runA c (grid0.coords t) _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      rw [totalAt_first m c t h0]
      iexact H15
  · have hb : ∀ d, (dats m 0 c).before 15 t d = fun _ => acc m c (t.val - 1) (Nat.lt_of_le_of_lt (Nat.sub_le _ _) t.isLt) := before0_15 m c t (fun e => h0 (by omega))
    simp only [hb]
    by_cases h1 : t.val % 8 = 7
    · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runC c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (fun _ => acc m c (t.val - 1) (Nat.lt_of_le_of_lt (Nat.sub_le _ _) t.isLt))) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      rw [totalAt_last m c t h0 h1]
      iexact H15
    · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runB c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (fun _ => acc m c (t.val - 1) (Nat.lt_of_le_of_lt (Nat.sub_le _ _) t.isLt))) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      rw [totalAt_mid m c t h0 h1]
      iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The whole program runs to the end with the arrays as the data say, and leaves every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

/-- The last grid point. -/
def tLast : Fin cfg0.N := ⟨7, by rw [show cfg0.N = 8 from N_0]; norm_num⟩

/-- The result: the scaled total after the last grid point. -/
def result (c : Dev nD) : Buf (Elt F) ((c : Thread nD τ).loc main_v10) := totalAt m c tLast

theorem flushed_eq (c : Dev nD) (t : Fin cfg0.N) (hf : (cfg0.win 15).flush t = true) :
    (dats m 0 c).flushed 15 t = ((cfg0.win 15).blk t).view.read (Elt F) (result m c) := by
  have hN : t.val < 8 := lt_of_lt_of_eq t.isLt (show cfg0.N = 8 from N_0)
  have h3 : t.val = 7 := by have := (flush0_15 t).mp hf; omega
  obtain rfl : t = tLast := Fin.ext h3
  show (cfg0.win 15).cut (grid0.coords tLast) ((dats m 0 c).after 15 tLast) = _
  rw [after0_15]
  have hz' : (fun a => win0_15.index tLast a * main_v10.ty.shape.size a) = fun _ => 0 := funext fun a => by fin_cases a <;> decide
  exact (Memref.read_access_unit_zero (Elt F) main_v10 hz' (fun a => by rw [congrFun hz' a]; simp) (result m c)).symm

theorem final_o (c : Dev nD) : (dats m 0 c).arrAt 15 cfg0.N = result m c :=
  (dats m 0 c).arrAt_eq_of_cover 15 (result m c) (flushed_eq m c) fun i =>
    ⟨tLast, (flush0_15 tLast).mpr rfl, by
      show i ∈ ((View.whole main_v10).slice (win0_15.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_15.index tLast 0 * win0_15.size 0 ≤ (i 0 : Nat) ∧ (i 0 : Nat) < win0_15.index tLast 0 * win0_15.size 0 + win0_15.xsize (grid0.coords tLast) 0
                  rw [show win0_15.index tLast 0 * win0_15.size 0 = 0 from by decide +kernel, show win0_15.xsize (grid0.coords tLast) 0 = 1 from by decide +kernel]; omega
      | ⟨1, _⟩ => show win0_15.index tLast 1 * win0_15.size 1 ≤ (i 1 : Nat) ∧ (i 1 : Nat) < win0_15.index tLast 1 * win0_15.size 1 + win0_15.xsize (grid0.coords tLast) 1
                  rw [show win0_15.index tLast 1 * win0_15.size 1 = 0 from by decide +kernel, show win0_15.xsize (grid0.coords tLast) 1 = 1 from by decide +kernel]; omega⟩

theorem arrRef_injective : Function.Injective (Pipeline.arrRef spec0) := by decide

/-- The program's result: the one number of the total. -/
theorem tail_v11 (c : Dev nD) :
    Pipeline.afterTail₀ cfgs (dats m) 0 (V0 m) [hostOps1] c main_v11 = fun _ => totalAt m c tLast (ix2 0 0) := by
  have hw : Pipeline.withArrays (cfgs 0).spec c (V0 m c) (fun w => (dats m 0 c).arrAt w (cfgs 0).N) (Proc.tc.devRef main_v10) = result m c :=
    (Pipeline.withArrays_arr spec0 arrRef_injective c (V0 m c) (fun w => (dats m 0 c).arrAt w (cfgs 0).N) 15).trans (final_o m c)
  unfold Pipeline.afterTail₀
  rw [List.flatten_cons, List.flatten_nil, List.append_nil, StableHlo.after_cons, StableHlo.after_nil, StableHlo.reshape_result]
  funext i
  show Pipeline.withArrays (cfgs 0).spec c (V0 m c) (fun w => (dats m 0 c).arrAt w (cfgs 0).N) (Proc.tc.devRef main_v10) _ = _
  rw [hw]
  exact congrArg (totalAt m c tLast) (one_idx _ _)

/-- The run leaves the arguments unchanged and every counter at zero, -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- and its result is the scaled total. -/
theorem run_value : θ_run defs (onTc (τ := τ) (main (F := F))) ⟨m, fun _ => 0, ρ⟩ (fun r => ∀ c : Dev nD,
      r.2.mem ((c.tc : Thread nD τ).loc main_v11) = (fun _ => totalAt m c tLast (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(((h.1.1 c).2 main_v11 (Pipeline.mem_restRefs_of main_v11 (by decide) (by decide))).trans (tail_v11 m c)), h.2.1 c⟩)
    (θ_run_and (run_main m ρ) (quiet m ρ))

end Cert.KernelIdeal.Own

end
-- ==== Proof.KernelFrame.lean ====
module
public import proofs.«01_k».proof.Defs
public import proofs.«01_k».proof.Proof.Region
public import proofs.«01_k».proof.Proof.Gen.Kernel
@[expose] public section
namespace Cert.Kernel.Own
open Idealize.ShloMosaic Idealize.SL.Sem

/-! The kernel on words and its counterpart with a named constant are one program once the name is read as
    the word it replaces. So the frame of the one is the frame of the other. -/

/-- The reading of a named constant as the word it stands for. -/
@[reducible] def asWord : Named Bits := ⟨fun _ _ {φ} b => FloatOps.ofBits φ b⟩
attribute [local instance] asWord Cert.Kernel.Gen.facts Cert.KernelIdeal.Gen.facts
set_option maxRecDepth 100000
set_option maxHeartbeats 1000000

/-- The two programs' entry functions agree. -/
theorem main_eq : Cert.Kernel.main (F := Bits) = Cert.KernelIdeal.main (F := Bits) := funext fun _ => rfl

/-- The two programs' block bodies agree. -/
theorem body_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

/-- So do their tables of definitions. -/
theorem defs_eq : Cert.Kernel.defs (F := Bits) = Cert.KernelIdeal.defs (F := Bits) :=
  congrArg (fun d => Pipeline.defs (Cert.Kernel.pcfgs (F := Bits)) d) body_eq

/-- Every run of the kernel on words ends, with the arguments as they were and no semaphore left raised. -/
theorem quiet : Cert.quiescent_Kernel := by
  intro m ρ _
  rw [defs_eq, main_eq]
  exact Cert.KernelIdeal.Own.quiet (F := Bits) m ρ

end Cert.Kernel.Own
end
-- ==== Proof.RefStage.lean ====
module

public import proofs.«01_k».proof.Proof.Gen.ReferenceIdeal.Run
public import Idealize.ShloMosaic.Lib.Pointwise

@[expose] public section

noncomputable section

/-! # The reference's value in stages -/

namespace Cert.ReferenceIdeal.Own

open Cert.ReferenceIdeal Cert.ReferenceIdeal.Gen
open Idealize.ShloMosaic Idealize.ShloMosaic.TcCoe

/-- The training points' positions, as rows of a table. -/
def picks (i : IVec S128 32) : IVec S128x1 32 :=
  broadcastInDim S128x1 ![0] bcast_S128_S128x1_0
    (select (cmpi .slt i (broadcastInDim S128 ![] bcast_S_S128 (constantI S_ 32 0#32)))
      (addi i (broadcastInDim S128 ![] bcast_S_S128 (constantI S_ 32 2048#32))) i)

/-- The training points. -/
def centres (x : FVec Ideal S8x2048x3 .f32) (i : IVec S128 32) : FVec Ideal S8x128x3 .f32 :=
  Host.gather gather_S8x2048x3_S128x1_S8x128x3_02_1_n_n_1_1_813 x (picks i)

/-- The squared distances from the points `q` to the points `x`. -/
def dist0 (q : FVec Ideal S8x128x3 .f32) (x : FVec Ideal S8x2048x3 .f32) : FVec Ideal S8x128x2048 .f32 :=
  subf (addf
      (broadcastInDim S8x128x2048 ![0, 1, 2] bcast_S8x128x1_S8x128x2048_0_1_2 (broadcastInDim S8x128x1 ![0, 1] bcast_S8x128_S8x128x1_0_1
        (Host.reduceAdd (mulf q q) (constant S_ .f32 0x00000000#32) reducesTo_S8x128x3_S8x128_d2 h_S_)))
      (broadcastInDim S8x128x2048 ![0, 1, 2] bcast_S8x1x2048_S8x128x2048_0_1_2 (broadcastInDim S8x1x2048 ![0, 2] bcast_S8x2048_S8x1x2048_0_2
        (Host.reduceAdd (mulf x x) (constant S_ .f32 0x00000000#32) reducesTo_S8x2048x3_S8x2048_d2 h_S_))))
    (mulf (broadcastInDim S8x128x2048 ![] bcast_S_S8x128x2048 (constant S_ .f32 0x40000000#32))
      (Host.dotGeneral dot_S8x128x3_S8x2048x3_S8x128x2048_2_2_1_1_0_0 none q x))

/-- The nearest 32 of the points at the squared distances `d`: the negated distances and the positions. -/
def near0 (d : FVec Ideal S8x128x2048 .f32) : FVec Ideal S8x128x32 .f32 × IVec S8x128x32 32 :=
  Host.topK S8x128x32 2 (FloatOps.cmpfTotal (F := Ideal) (φ := .f32) .gt) (Host.negf d) sliceFits_S8x128x2048_S8x128x32

/-- The points at the given positions, 32 for every training point. -/
def frames (x : FVec Ideal S8x2048x3 .f32) (i : IVec S8x128x32 32) : FVec Ideal S8x128x32x3 .f32 :=
  Host.gather gather_S8x2048x3_S8x128x32x1_S8x128x32x3_3_1_0_0_1_3_113 x
    (broadcastInDim S8x128x32x1 ![0, 1, 2] bcast_S8x128x32_S8x128x32x1_0_1_2
      (select (cmpi .slt i (broadcastInDim S8x128x32 ![] bcast_S_S8x128x32 (constantI S_ 32 0#32)))
        (addi i (broadcastInDim S8x128x32 ![] bcast_S_S8x128x32 (constantI S_ 32 2048#32))) i))

/-- The frame points, the training points of all clouds in one list. -/
def flat (f : FVec Ideal S8x128x32x3 .f32) : FVec Ideal S1024x32x3 .f32 :=
  shapeCast S1024x32x3 f shapeCasts_S8x128x32x3_S1024x32x3

/-- The clean cloud of every training point. -/
def clouds (x : FVec Ideal S8x2048x3 .f32) : FVec Ideal S1024x2048x3 .f32 :=
  shapeCast S1024x2048x3 (broadcastInDim S8x128x2048x3 ![0, 1, 2, 3] bcast_S8x1x2048x3_S8x128x2048x3_0_1_2_3
    (broadcastInDim S8x1x2048x3 ![0, 2, 3] bcast_S8x2048x3_S8x1x2048x3_0_2_3 x)) shapeCasts_S8x128x2048x3_S1024x2048x3

/-- The squared distances from the points `q` to the points `x`, for every training point. -/
def dist1 (q : FVec Ideal S1024x32x3 .f32) (x : FVec Ideal S1024x2048x3 .f32) : FVec Ideal S1024x32x2048 .f32 :=
  subf (addf
      (broadcastInDim S1024x32x2048 ![0, 1, 2] bcast_S1024x32x1_S1024x32x2048_0_1_2 (broadcastInDim S1024x32x1 ![0, 1] bcast_S1024x32_S1024x32x1_0_1
        (Host.reduceAdd (mulf q q) (constant S_ .f32 0x00000000#32) reducesTo_S1024x32x3_S1024x32_d2 h_S_)))
      (broadcastInDim S1024x32x2048 ![0, 1, 2] bcast_S1024x1x2048_S1024x32x2048_0_1_2 (broadcastInDim S1024x1x2048 ![0, 2] bcast_S1024x2048_S1024x1x2048_0_2
        (Host.reduceAdd (mulf x x) (constant S_ .f32 0x00000000#32) reducesTo_S1024x2048x3_S1024x2048_d2 h_S_))))
    (mulf (broadcastInDim S1024x32x2048 ![] bcast_S_S1024x32x2048 (constant S_ .f32 0x40000000#32))
      (Host.dotGeneral dot_S1024x32x3_S1024x2048x3_S1024x32x2048_2_2_1_1_0_0 none q x))

/-- The nearest 4 of the points at the squared distances `d`: the negated distances and the positions. -/
def near1 (d : FVec Ideal S1024x32x2048 .f32) : FVec Ideal S1024x32x4 .f32 × IVec S1024x32x4 32 :=
  Host.topK S1024x32x4 2 (FloatOps.cmpfTotal (F := Ideal) (φ := .f32) .gt) (Host.negf d) sliceFits_S1024x32x2048_S1024x32x4

/-- The points at the given positions, 4 for every frame point. -/
def cleans (x : FVec Ideal S1024x2048x3 .f32) (i : IVec S1024x32x4 32) : FVec Ideal S1024x32x4x3 .f32 :=
  Host.gather gather_S1024x2048x3_S1024x32x4x1_S1024x32x4x3_3_1_0_0_1_3_113 x
    (broadcastInDim S1024x32x4x1 ![0, 1, 2] bcast_S1024x32x4_S1024x32x4x1_0_1_2
      (select (cmpi .slt i (broadcastInDim S1024x32x4 ![] bcast_S_S1024x32x4 (constantI S_ 32 0#32)))
        (addi i (broadcastInDim S1024x32x4 ![] bcast_S_S1024x32x4 (constantI S_ 32 2048#32))) i))

/-- The mean of the differences between a frame point and its clean neighbours. -/
def noise (f : FVec Ideal S8x128x32x3 .f32) (n : FVec Ideal S1024x32x4x3 .f32) : FVec Ideal S8x128x32x3 .f32 :=
  Host.divf (Host.reduceAdd (subf
      (broadcastInDim S8x128x32x4x3 ![0, 1, 2, 3, 4] bcast_S8x128x32x1x3_S8x128x32x4x3_0_1_2_3_4
        (broadcastInDim S8x128x32x1x3 ![0, 1, 2, 4] bcast_S8x128x32x3_S8x128x32x1x3_0_1_2_4 f))
      (shapeCast S8x128x32x4x3 n shapeCasts_S1024x32x4x3_S8x128x32x4x3))
      (constant S_ .f32 0x00000000#32) reducesTo_S8x128x32x4x3_S8x128x32x3_d3 h_S_)
    (broadcastInDim S8x128x32x3 ![] bcast_S_S8x128x32x3 (constant S_ .f32 0x40800000#32))

/-- The feature network at every point. -/
def feats (x : FVec Ideal S8x2048x3 .f32) (u : FVec Ideal S3x128 .f32) (b : FVec Ideal S128 .f32)
    (v : FVec Ideal S128x128 .f32) (e : FVec Ideal S128 .f32) : FVec Ideal S8x2048x128 .f32 :=
  addf (Host.dotGeneral dot_S8x2048x128_S128x128_S8x2048x128_2_0_01_1_n_n none
      (maximumf (addf (Host.dotGeneral dot_S8x2048x3_S3x128_S8x2048x128_2_0_01_1_n_n none x u)
          (broadcastInDim S8x2048x128 ![0, 1, 2] bcast_S1x1x128_S8x2048x128_0_1_2 (broadcastInDim S1x1x128 ![2] bcast_S128_S1x1x128_2 b)))
        (broadcastInDim S8x2048x128 ![] bcast_S_S8x2048x128 (constant S_ .f32 0x00000000#32))) v)
    (broadcastInDim S8x2048x128 ![0, 1, 2] bcast_S1x1x128_S8x2048x128_0_1_2 (broadcastInDim S1x1x128 ![2] bcast_S128_S1x1x128_2 e))

/-- The training points' features. -/
def picked (z : FVec Ideal S8x2048x128 .f32) (i : IVec S128 32) : FVec Ideal S8x128x128 .f32 :=
  Host.gather gather_S8x2048x128_S128x1_S8x128x128_02_1_n_n_1_1_81128 z (picks i)

/-- The frame points about their training point. -/
def about (f : FVec Ideal S8x128x32x3 .f32) (q : FVec Ideal S8x128x3 .f32) : FVec Ideal S8x128x32x3 .f32 :=
  subf f (broadcastInDim S8x128x32x3 ![0, 1, 2, 3] bcast_S8x128x1x3_S8x128x32x3_0_1_2_3
    (broadcastInDim S8x128x1x3 ![0, 1, 3] bcast_S8x128x3_S8x128x1x3_0_1_3 q))

/-- The score network's first layer. -/
def layer1 (x : FVec Ideal S1024x32x3 .f32) (z : FVec Ideal S8x128x128 .f32) (u : FVec Ideal S131x128 .f32) (b : FVec Ideal S128 .f32) :
    FVec Ideal S1024x32x128 .f32 :=
  maximumf (addf (Host.dotGeneral dot_S1024x32x131_S131x128_S1024x32x128_2_0_01_1_n_n none
      (φ₁ := .f32) (Value.fn_main_v85 (F := Ideal) x (broadcastInDim S1024x32x128 ![0, 1, 2] bcast_S1024x1x128_S1024x32x128_0_1_2
        (broadcastInDim S1024x1x128 ![0, 2] bcast_S1024x128_S1024x1x128_0_2 (shapeCast S1024x128 z shapeCasts_S8x128x128_S1024x128)))) u)
      (broadcastInDim S1024x32x128 ![0, 1, 2] bcast_S1x1x128_S1024x32x128_0_1_2 (broadcastInDim S1x1x128 ![2] bcast_S128_S1x1x128_2 b)))
    (broadcastInDim S1024x32x128 ![] bcast_S_S1024x32x128 (constant S_ .f32 0x00000000#32))

/-- Its second layer. -/
def layer2 (x : FVec Ideal S1024x32x128 .f32) (u : FVec Ideal S128x128 .f32) (b : FVec Ideal S128 .f32) : FVec Ideal S1024x32x128 .f32 :=
  maximumf (addf (Host.dotGeneral dot_S1024x32x128_S128x128_S1024x32x128_2_0_01_1_n_n none x u)
      (broadcastInDim S1024x32x128 ![0, 1, 2] bcast_S1x1x128_S1024x32x128_0_1_2 (broadcastInDim S1x1x128 ![2] bcast_S128_S1x1x128_2 b)))
    (broadcastInDim S1024x32x128 ![] bcast_S_S1024x32x128 (constant S_ .f32 0x00000000#32))

/-- Its third layer. -/
def layer3 (x : FVec Ideal S1024x32x128 .f32) (u : FVec Ideal S128x3 .f32) (b : FVec Ideal S3 .f32) : FVec Ideal S8x128x32x3 .f32 :=
  shapeCast S8x128x32x3 (addf (Host.dotGeneral dot_S1024x32x128_S128x3_S1024x32x3_2_0_01_1_n_n none x u)
    (broadcastInDim S1024x32x3 ![0, 1, 2] bcast_S1x1x3_S1024x32x3_0_1_2 (broadcastInDim S1x1x3 ![2] bcast_S3_S1x1x3_2 b)))
    shapeCasts_S1024x32x3_S8x128x32x3

/-- The weighted squares of the errors. -/
def errors (n s : FVec Ideal S8x128x32x3 .f32) : FVec Ideal S8x128x32x3 .f32 :=
  mulf (Host.powf (subf (mulf (broadcastInDim S8x128x32x3 ![] bcast_S_S8x128x32x3 (constant S_ .f32 0xBF800000#32)) n) s)
      (broadcastInDim S8x128x32x3 ![] bcast_S_S8x128x32x3 (constant S_ .f32 0x40000000#32)))
    (broadcastInDim S8x128x32x3 ![] bcast_S_S8x128x32x3 (constant S_ .f32 0x42C80000#32))

/-- The loss of the weighted squares. -/
def loss (e : FVec Ideal S8x128x32x3 .f32) : FVec Ideal S_ .f32 :=
  mulf (constant S_ .f32 0x3F000000#32) (Host.divf
    (Host.reduceAdd (Host.reduceAdd e (constant S_ .f32 0x00000000#32) reducesTo_S8x128x32x3_S8x128x32_d3 h_S_)
      (constant S_ .f32 0x00000000#32) reducesTo_S8x128x32_S_d0_1_2 h_S_)
    (constant S_ .f32 0x47000000#32))

section

variable (m : (ℓ : Loc nD τ sig) → Buf (Elt Ideal) ℓ) (c : Dev nD)

def q : FVec Ideal S8x128x3 .f32 := centres (m (c.tc.loc main_arg0)) (m (c.tc.loc main_arg2))
def fr : FVec Ideal S8x128x32x3 .f32 := frames (m (c.tc.loc main_arg0)) (near0 (dist0 (q m c) (m (c.tc.loc main_arg0)))).2
def cl : FVec Ideal S1024x32x4x3 .f32 :=
  cleans (clouds (m (c.tc.loc main_arg1))) (near1 (dist1 (flat (fr m c)) (clouds (m (c.tc.loc main_arg1))))).2
def ft : FVec Ideal S8x128x128 .f32 :=
  picked (feats (m (c.tc.loc main_arg0)) (m (c.tc.loc main_arg3)) (m (c.tc.loc main_arg4)) (m (c.tc.loc main_arg5)) (m (c.tc.loc main_arg6)))
    (m (c.tc.loc main_arg2))
def sc : FVec Ideal S8x128x32x3 .f32 :=
  layer3 (layer2 (layer1 (flat (about (fr m c) (q m c))) (ft m c) (m (c.tc.loc main_arg7)) (m (c.tc.loc main_arg8)))
    (m (c.tc.loc main_arg9)) (m (c.tc.loc main_arg10))) (m (c.tc.loc main_arg11)) (m (c.tc.loc main_arg12))

set_option maxRecDepth 16384 in
set_option maxHeartbeats 4000000 in
theorem res_eq : Value.res_main_v111 (F := Ideal) m c = loss (errors (noise (fr m c) (cl m c)) (sc m c)) := by
  unfold Value.res_main_v111
  rfl

end

end Cert.ReferenceIdeal.Own
-- ==== Proof.Model.lean ====
module

public import Mathlib.Data.EReal.Operations
public import Mathlib.Algebra.BigOperators.Fin

@[expose] public section

noncomputable section

/-! # The mathematics of the loss, on real numbers

No program appears here: the squared distance in its expanded form, nearest-point orderings and what removing the
nearest points one after the other leaves, the small network, and the terms of the loss. -/

namespace Cert.Model

/-- A point of space. -/
abbrev Pt := Fin 3 → ℝ

/-- The squared distance of two points, expanded. -/
def d2 (q p : Pt) : ℝ := ((∑ i, q i * q i) + ∑ i, p i * p i) - 2 * ∑ i, q i * p i

/-- `o` lists the indices of the smallest values of `d`, smallest first, with no tie at any listed value. -/
structure Ordered {K : ℕ} (d : Fin 2048 → ℝ) (o : Fin K → Fin 2048) : Prop where
  inj : Function.Injective o
  lt : ∀ k n, (∀ j, j < k → o j ≠ n) → n ≠ o k → d (o k) < d n

/-- The values of `d` with the first `k` listed ones raised to infinity. -/
def rest {K : ℕ} (d : Fin 2048 → ℝ) (o : Fin K → Fin 2048) (k : ℕ) (n : Fin 2048) : EReal :=
  open Classical in if ∃ j : Fin K, j.val < k ∧ o j = n then ⊤ else (d n : EReal)

variable {K : ℕ} {d : Fin 2048 → ℝ} {o : Fin K → Fin 2048}

theorem rest_zero (n : Fin 2048) : rest d o 0 n = d n := by simp [rest]

theorem rest_at (h : Ordered d o) (k : Fin K) : rest d o k (o k) = d (o k) := by
  rw [rest, if_neg]
  rintro ⟨j, hj, e⟩
  exact (Fin.ne_of_lt hj) (h.inj e)

theorem le_rest (h : Ordered d o) (k : Fin K) (n : Fin 2048) : (d (o k) : EReal) ≤ rest d o k n := by
  classical
  rw [rest]
  split_ifs with hn
  · exact le_top
  · by_cases e : n = o k
    · rw [e]
    · exact EReal.coe_le_coe_iff.2 (h.lt k n (fun j hj e' => hn ⟨j, hj, e'⟩) e).le

/-- The least value left is the next listed one. -/
theorem inf_rest (h : Ordered d o) (k : Fin K) : Finset.univ.inf (rest d o k) = d (o k) :=
  le_antisymm ((Finset.inf_le (Finset.mem_univ (o k))).trans (rest_at h k).le)
    (Finset.le_inf fun n _ => le_rest h k n)

/-- It is attained at the next listed index only. -/
theorem rest_le_iff (h : Ordered d o) (k : Fin K) (n : Fin 2048) : rest d o k n ≤ d (o k) ↔ n = o k := by
  classical
  constructor
  · intro hle
    by_contra e
    rw [rest] at hle
    split_ifs at hle with hn
    · exact (EReal.coe_lt_top _).not_ge hle
    · exact (EReal.coe_lt_coe_iff.2 (h.lt k n (fun j hj e' => hn ⟨j, hj, e'⟩) e)).not_ge hle
  · rintro rfl
    exact (rest_at h k).le

/-- Removing it is one more step. -/
theorem rest_succ (k : Fin K) (n : Fin 2048) :
    (if n = o k then ⊤ else rest d o k n) = rest d o (k.val + 1) n := by
  classical
  unfold rest
  by_cases e : n = o k
  · rw [if_pos e, if_pos ⟨k, Nat.lt_succ_self _, e.symm⟩]
  · rw [if_neg e]
    refine if_congr ⟨fun ⟨j, hj, e'⟩ => ⟨j, hj.trans (Nat.lt_succ_self _), e'⟩, ?_⟩ rfl rfl
    rintro ⟨j, hj, e'⟩
    refine ⟨j, lt_of_le_of_ne (Nat.lt_succ_iff.1 hj) fun h' => e ?_, e'⟩
    rw [← e', Fin.ext h']

/-- The listed values up to `k` are those not above the `k`-th. -/
theorem le_iff (h : Ordered d o) (k : Fin K) (n : Fin 2048) : d n ≤ d (o k) ↔ ∃ j, j ≤ k ∧ o j = n := by
  constructor
  · intro hle
    by_contra hn
    push Not at hn
    exact (h.lt k n (fun j hj => hn j hj.le) fun e => hn k le_rfl e.symm).not_ge hle
  · rintro ⟨j, hj, rfl⟩
    rcases hj.eq_or_lt with rfl | hlt
    · exact le_rfl
    · refine (h.lt j (o k) (fun i hi e => ?_) fun e => ?_).le
      · exact absurd (h.inj e) (hi.trans hlt).ne
      · exact absurd (h.inj e) hlt.ne'

/-- Keeping the values above the `k`-th is removing the first `k + 1`. -/
theorem above_eq (h : Ordered d o) (k : Fin K) (n : Fin 2048) :
    (if (d (o k) : EReal) < d n then (d n : EReal) else ⊤) = rest d o (k.val + 1) n := by
  classical
  unfold rest
  by_cases e : d n ≤ d (o k)
  · obtain ⟨j, hj, e'⟩ := (le_iff h k n).1 e
    rw [if_neg (EReal.coe_le_coe_iff.2 e).not_gt, if_pos ⟨j, Nat.lt_succ_of_le hj, e'⟩]
  · rw [if_pos (EReal.coe_lt_coe_iff.2 (not_le.1 e)), if_neg]
    rintro ⟨j, hj, e'⟩
    exact e ((le_iff h k n).2 ⟨j, Nat.le_of_lt_succ hj, e'⟩)

/-- A sum against the mark of one index. -/
theorem sum_mark {N : ℕ} (a : Fin N) (f : Fin N → EReal) : ∑ n, (if n = a then (1 : EReal) else 0) * f n = f a := by
  rw [Finset.sum_eq_single a]
  · simp
  · intro b _ hb
    simp [hb]
  · simp

/-- A sum against the marks of distinct indices. -/
theorem sum_marks {N M : ℕ} (o : Fin M → Fin N) (ho : Function.Injective o) (f : Fin N → EReal)
    [∀ n, Decidable (∃ j, o j = n)] : ∑ n, (if ∃ j, o j = n then (1 : EReal) else 0) * f n = ∑ j, f (o j) := by
  have : ∀ n, (if ∃ j, o j = n then (1 : EReal) else 0) * f n = if n ∈ Finset.univ.image o then f n else 0 := by
    intro n
    by_cases h : ∃ j, o j = n <;> simp [h]
  rw [Finset.sum_congr rfl fun n _ => this n, Finset.sum_ite_mem, Finset.univ_inter, Finset.sum_image fun _ _ _ _ e => ho e]

/-! ## The network -/

/-- The network's weights. -/
structure Weights where
  fW1 : Fin 3 → Fin 128 → ℝ
  fb1 : Fin 128 → ℝ
  fW2 : Fin 128 → Fin 128 → ℝ
  fb2 : Fin 128 → ℝ
  sWx : Fin 3 → Fin 128 → ℝ
  sWz : Fin 128 → Fin 128 → ℝ
  sb1 : Fin 128 → ℝ
  sW2 : Fin 128 → Fin 128 → ℝ
  sb2 : Fin 128 → ℝ
  sW3 : Fin 128 → Fin 3 → ℝ
  sb3 : Fin 3 → ℝ

variable (w : Weights)

/-- The feature of a point. -/
def feat (q : Pt) (j : Fin 128) : ℝ :=
  (∑ k, max ((∑ i, q i * w.fW1 i k) + w.fb1 k) 0 * w.fW2 k j) + w.fb2 j

/-- The first layer, at a displacement and a feature. -/
def h1 (x : Pt) (z : Fin 128 → ℝ) (j : Fin 128) : ℝ :=
  max (((∑ i, x i * w.sWx i j) + ∑ k, z k * w.sWz k j) + w.sb1 j) 0

/-- The second layer. -/
def h2 (x : Pt) (z : Fin 128 → ℝ) (j : Fin 128) : ℝ := max ((∑ k, h1 w x z k * w.sW2 k j) + w.sb2 j) 0

/-- The network's answer. -/
def net (x : Pt) (z : Fin 128 → ℝ) (i : Fin 3) : ℝ := (∑ k, h2 w x z k * w.sW3 k i) + w.sb3 i

/-- One term of the loss: the frame point `f` about the centre `q`, its four clean neighbours `c`. -/
def term (q f : Pt) (c : Fin 4 → Pt) (i : Fin 3) : ℝ :=
  ((∑ j, c j i) * (1 / 4) - f i - net w (fun i => f i - q i) (feat w q) i) ^ 2

end Cert.Model

end
-- ==== Proof.KerVal.lean ====
module

public import proofs.«01_k».proof.Proof.Body
public import proofs.«01_k».proof.Proof.Model
public import Idealize.ShloMosaic.Lib.Pointwise

@[expose] public section

set_option maxRecDepth 16384

noncomputable section

/-! # Extended reals that are real numbers -/

namespace Cert.Model

theorem csum {N : ℕ} (f : Fin N → ℝ) : ∑ i, (f i : EReal) = ((∑ i, f i : ℝ) : EReal) := by
  induction N with
  | zero => simp
  | succ n ih => rw [Fin.sum_univ_succ, Fin.sum_univ_succ, ih, EReal.coe_add]

theorem cmax (a : ℝ) : max (a : EReal) 0 = ((max a 0 : ℝ) : EReal) := by
  rw [← EReal.coe_zero]
  exact (EReal.coe_strictMono.monotone.map_max).symm

end Cert.Model

namespace Cert.KernelIdeal.Own

open Cert.KernelIdeal Cert.KernelIdeal.Gen Cert.Model
open Idealize.ShloMosaic Idealize.ShloMosaic.Pointwise

/-! # The constants -/

theorem big_eq : (Named.named κ "big" 0x7F61B1E6#32 : Ideal .f32) = ⊤ := rfl
theorem inf_eq : Ideal.ofBits .f32 0x7F800000#32 = ⊤ := by simp [Ideal.ofBits, Ideal.ieee]
theorem two_eq : Ideal.ofBits .f32 0x40000000#32 = ((2 : ℝ) : EReal) := by
  simp [Ideal.ofBits, Ideal.ieee]
  rw [← EReal.coe_mul]
  norm_num
theorem quarter_eq : Ideal.ofBits .f32 0x3E800000#32 = ((1 / 4 : ℝ) : EReal) := by
  simp [Ideal.ofBits, Ideal.ieee]
  rw [← EReal.coe_mul]
  norm_num

/-- A fold of minima from infinity is the infimum. -/
theorem fold_eq {N : ℕ} (f : Fin N → EReal) : Finset.fold min ⊤ f Finset.univ = Finset.univ.inf f := rfl

/-- A truth value turned into a number. -/
theorem mark_eq (P : Prop) [Decidable P] :
    (FloatOps.sitofp FTy.f32 (BitVec.setWidth 32 (BitVec.ofBool (decide P))) : Ideal .f32) = if P then (1 : EReal) else 0 := by
  by_cases h : P <;> simp [h, FloatOps.sitofp]

/-- A choice by a truth value. -/
theorem pick_eq (P : Prop) [Decidable P] (x y : EReal) :
    Scalar.select (BitVec.ofBool (decide P)) x y = if P then x else y := by
  by_cases h : P <;> simp [h, Scalar.select]

/-- Index words are distinct. -/
theorem word_inj (x y : Fin 2048) : BitVec.ofNat 32 x.val = BitVec.ofNat 32 y.val ↔ x = y := by
  refine ⟨fun h => Fin.ext ?_, fun h => by rw [h]⟩
  have := congrArg BitVec.toNat h
  rwa [BitVec.toNat_ofNat, BitVec.toNat_ofNat, Nat.mod_eq_of_lt (by omega), Nat.mod_eq_of_lt (by omega)] at this

/-- The mark of an index word among the index words. -/
theorem word_mark (x y : Fin 2048) :
    (FloatOps.sitofp FTy.f32 (BitVec.setWidth 32 (IntOp.cmpi CmpIPredicate.eq (BitVec.ofNat 32 x.val) (BitVec.ofNat 32 y.val))) :
      Ideal .f32) = if x = y then (1 : EReal) else 0 := by
  have e : IntOp.cmpi CmpIPredicate.eq (BitVec.ofNat 32 x.val) (BitVec.ofNat 32 y.val) = BitVec.ofBool (decide (x = y)) := by
    by_cases h : x = y
    · simp [IntOp.cmpi, h]
    · have h' := mt (word_inj x y).1 h
      simp [IntOp.cmpi, h, beq_eq_false_iff_ne.2 h']
  rw [e, mark_eq]

/-! # The centres, their features and the distances to the noisy points -/

section Centres

variable {p : Fin 2048 → Pt} {w : Weights} {a : Fin 128 → Fin 2048}
variable {x0 : FVec Ideal S1x3x2048 .f32} {x3 : IVec S128x1 32}

/-- The product against the marks picks the centre's coordinates. -/
theorem centre_eq (h0 : ∀ i n, x0 (ix3 0 i n) = (p n i : EReal)) (h3 : ∀ m, x3 (ix2 m 0) = BitVec.ofNat 32 (a m).val)
    (m : Fin 128) (i : Fin 3) : k0_pay17 (F := Ideal) x0 x3 (ix2 m i) = (p (a m) i : EReal) := by
  pointwise [k0_pay17, k0_pay11, k0_pay12, k0_pay9]
  simp only [word_mark, h0, h3, sum_mark, ← EReal.coe_sub, sub_self, EReal.coe_zero, add_zero]

/-- The distances from the centres. -/
theorem dist0_eq {v24 : FVec Ideal S128x3 .f32} {q : Fin 128 → Pt} (h0 : ∀ i n, x0 (ix3 0 i n) = (p n i : EReal))
    (hq : ∀ m i, v24 (ix2 m i) = (q m i : EReal)) (m : Fin 128) (n : Fin 2048) :
    k0_pay22 (F := Ideal) (k0_pay9 x0) (k0_pay15 x0) v24 (ix2 m n) = (d2 (q m) (p n) : EReal) := by
  pointwise [k0_pay22, k0_pay15, k0_pay11, k0_pay12, k0_pay9]
  simp only [h0, hq, two_eq, Fin.sum_univ_succ, d2]
  simp

/-- The features of the centres, through their half of the first layer. -/
theorem zpart_eq {q : Fin 128 → Pt} {x4 : FVec Ideal S3x128 .f32} {x5 x7 : FVec Ideal S1x128 .f32} {x6 x9 : FVec Ideal S128x128 .f32}
    (hq : ∀ m i, k0_pay17 (F := Ideal) x0 x3 (ix2 m i) = (q m i : EReal))
    (h4 : ∀ i j, x4 (ix2 i j) = (w.fW1 i j : EReal)) (h5 : ∀ j, x5 (ix2 0 j) = (w.fb1 j : EReal))
    (h6 : ∀ i j, x6 (ix2 i j) = (w.fW2 i j : EReal)) (h7 : ∀ j, x7 (ix2 0 j) = (w.fb2 j : EReal))
    (h9 : ∀ i j, x9 (ix2 i j) = (w.sWz i j : EReal)) (m j : Fin 128) :
    k0_pay20 (k0_pay18 (F := Ideal) x0 x3 x4 x5 x6) (k0_pay19 x7) x9 (ix2 m j)
      = ((∑ k, feat w (q m) k * w.sWz k j : ℝ) : EReal) := by
  pointwise [k0_pay18, k0_pay19, k0_pay20]
  simp only [hq, h4, h5, h6, h7, h9, ← EReal.coe_mul, csum, ← EReal.coe_add, cmax]
  rfl

end Centres

/-! # The selection rounds -/

section Rounds

variable {d0 : FVec Ideal S128x2048 .f32} {d : Fin 128 → Fin 2048 → ℝ} {o : Fin 128 → Fin 32 → Fin 2048}

/-- After `k` rounds the first `k` listed distances are infinite. -/
theorem dist_eq (hd : ∀ m n, d0 (ix2 m n) = (d m n : EReal)) (ho : ∀ m, Ordered (d m) (o m)) (k : ℕ) (hk : k ≤ 32)
    (m : Fin 128) (n : Fin 2048) : dist d0 k (ix2 m n) = rest (d m) (o m) k n := by
  induction k generalizing n with
  | zero => exact (hd m n).trans (rest_zero n).symm
  | succ k ih =>
    have ih' := ih (by omega)
    show k0_pay5 (F := Ideal) (dist d0 k) (ix2 m n) = _
    pointwise [k0_pay5, k0_pay3]
    simp only [ih', inf_eq, fold_eq, big_eq]
    refine Eq.trans ?_ (rest_succ (⟨k, by omega⟩ : Fin 32) n)
    refine if_congr ?_ rfl rfl
    exact (iff_of_eq (congrArg _ (inf_rest (ho m) ⟨k, by omega⟩))).trans (rest_le_iff (ho m) ⟨k, by omega⟩ n)

/-- Round `k`'s row of marks is the mark of the `k`-th listed point. -/
theorem sel_eq (hd : ∀ m n, d0 (ix2 m n) = (d m n : EReal)) (ho : ∀ m, Ordered (d m) (o m)) (m : Fin 128) (k : Fin 32)
    (r : Fin 4096) (hm : r.val % 128 = m.val) (hk : r.val / 128 = k.val) (n : Fin 2048) :
    sel d0 (ix2 r n) = if n = o m k then (1 : EReal) else 0 := by
  show k0_pay4 (F := Ideal) (dist d0 (r.val / 128)) (ix2 ⟨r.val % 128, Nat.mod_lt _ (by norm_num)⟩ n) = _
  rw [show (⟨r.val % 128, Nat.mod_lt _ (by norm_num)⟩ : Fin 128) = m from Fin.ext hm, hk]
  pointwise [k0_pay4, k0_pay3]
  simp only [dist_eq hd ho k.val k.isLt.le, inf_eq, fold_eq, mark_eq]
  refine if_congr ?_ rfl rfl
  exact (iff_of_eq (congrArg _ (inf_rest (ho m) k))).trans (rest_le_iff (ho m) k n)

end Rounds

/-! # The table of values -/

section Table

variable {c : Fin 2048 → Pt} {x1 : FVec Ideal S1x3x2048 .f32} {f : Pt} {cl : Fin 4 → Fin 2048}

/-- The distances from one noisy point to the clean points. -/
theorem clean_eq {v : FVec Ideal S1x256x3 .f32} (h1 : ∀ i n, x1 (ix3 0 i n) = (c n i : EReal)) (r : Fin 256)
    (hv : ∀ i, v (ix3 0 r i) = (f i : EReal)) (n : Fin 2048) :
    k0_pay7 (F := Ideal) (k0_pay16 x1) (k0_pay21 (k0_pay10 x1)) v (ix2 r n) = (d2 f (c n) : EReal) := by
  pointwise [k0_pay7, k0_pay16, k0_pay21, k0_pay10, k0_pay13, k0_pay14, k0_pay6]
  simp only [h1, hv, two_eq, Fin.sum_univ_succ, d2]
  simp

/-- The least clean distance above the `k`-th is the next one. -/
theorem next_eq {K : ℕ} {d : Fin 2048 → ℝ} {o : Fin K → Fin 2048} (h : Ordered d o) (k k' : Fin K) (e : k'.val = k.val + 1) :
    Finset.univ.inf (fun n => if (d (o k) : EReal) < d n then (d n : EReal) else ⊤) = d (o k') := by
  simp only [above_eq h k, ← e]
  exact inf_rest h k'

/-- A row of values: the noisy point, and the mean of its four clean neighbours less the point. -/
theorem row_eq {d : Fin 2048 → ℝ} (h : Ordered d cl) {v10 v13 : FVec Ideal S3x2048 .bf16} {v145 : FVec Ideal S256x3 .f32}
    {v160 : FVec Ideal S256x2048 .f32} {v164 : IVec S256x2048 1} (r : Fin 256)
    (h10 : ∀ i n, v10 (ix2 i n) = (c n i : EReal)) (h13 : ∀ i n, v13 (ix2 i n) = (0 : EReal))
    (h145 : ∀ i, v145 (ix2 r i) = (f i : EReal)) (h160 : ∀ n, v160 (ix2 r n) = (d n : EReal))
    (h164 : ∀ n, v164 (ix2 r n) = BitVec.ofBool (decide ((d (cl 0) : EReal) < d n))) (j : Fin 6) :
    k0_pay23 (F := Ideal) v10 v13 v145 v160 v164 (Named.named κ "big" 0x7F61B1E6#32) (ix2 r j)
      = ((if h : j.val < 3 then f ⟨j.val, h⟩
          else (∑ k, c (cl k) ⟨j.val - 3, by omega⟩) * (1 / 4) - f ⟨j.val - 3, by omega⟩ : ℝ) : EReal) := by
  pointwise [k0_pay23]
  have hl : ∀ n, d n ≤ d (cl 3) ↔ ∃ j, cl j = n := fun n =>
    (le_iff h 3 n).trans (exists_congr fun j => and_iff_right (Fin.le_last j))
  by_cases hj : j.val < 3
  · rw [dif_pos hj, dif_pos hj]
    exact h145 _
  · rw [dif_neg hj, dif_neg hj]
    simp only [h10, h13, h145, h160, h164, pick_eq, big_eq, inf_eq, fold_eq, mark_eq, next_eq h 0 1 rfl, next_eq h 1 2 rfl,
      next_eq h 2 3 rfl, EReal.coe_le_coe_iff, hl,
      sum_marks cl h.inj, csum, mul_zero, Finset.sum_const_zero, add_zero, quarter_eq, ← EReal.coe_mul, ← EReal.coe_sub]

variable {x2 : FVec Ideal S1x2048x3 .f32}

/-- A strip's rows. -/
theorem strip_eq (k : Fin k0_t1_loop.trips) (r : Fin 256) (n : Fin 2048) (hn : 256 * k.val + r.val = n.val) (i : Fin 3) :
    strip (F := Ideal) x2 k (ix3 0 r i) = x2 (ix3 0 n i) := by
  show x2 _ = x2 _
  refine congrArg x2 (funext fun b => Fin.ext ?_)
  have := k0_off2_eq k
  fin_cases b <;> simp [Rect.unit, this, ← hn]

/-- The table of values at a noisy point. -/
theorem tabHi_eq (h1 : ∀ i n, x1 (ix3 0 i n) = (c n i : EReal)) (n : Fin 2048) (h2 : ∀ i, x2 (ix3 0 n i) = (f i : EReal))
    (h : Ordered (fun n => d2 f (c n)) cl) (j : Fin 6) :
    tabHi (F := Ideal) (k0_pay10 x1) (k0_pay13 x1) (k0_pay14 x1) (k0_pay16 x1) x2 (ix2 n j)
      = ((if h : j.val < 3 then f ⟨j.val, h⟩
          else (∑ k, c (cl k) ⟨j.val - 3, by omega⟩) * (1 / 4) - f ⟨j.val - 3, by omega⟩ : ℝ) : EReal) := by
  show k0_pay25 (F := Ideal) _ _ _ _ _ _ (ix2 ⟨n.val % 256, Nat.mod_lt _ (by norm_num)⟩ j) = _
  pointwise [k0_pay25, k0_pay24]
  have hn : ∀ i, strip (F := Ideal) x2 ⟨n.val / 256, strip_lt (ix2 n j)⟩ (ix3 0 ⟨n.val % 256, Nat.mod_lt _ (by norm_num)⟩ i) = (f i : EReal) :=
    fun i => (strip_eq _ _ n (Nat.div_add_mod _ _) i).trans (h2 i)
  refine row_eq h _ (fun i n => ?_) (fun i n => ?_) (fun i => ?_) (fun n' => clean_eq h1 _ hn n') (fun n' => ?_) j
  · pointwise [k0_pay13, k0_pay10]
    exact h1 i n
  · pointwise [k0_pay14, k0_pay13, k0_pay10]
    rw [h1, ← EReal.coe_sub, sub_self, EReal.coe_zero]
  · pointwise [k0_pay6]
    exact hn i
  · pointwise [k0_pay8]
    simp only [clean_eq h1 _ hn, inf_eq, fold_eq]
    have e0 : (Finset.univ.inf fun x => (d2 f (c x) : EReal)) = d2 f (c (cl 0)) := by
      have e1 := inf_rest h 0
      have e2 : rest (fun n => d2 f (c n)) cl ((0 : Fin 4) : ℕ) = fun x => (d2 f (c x) : EReal) := funext fun x => rest_zero x
      rw [e2] at e1
      exact e1
    rw [e0]

/-- The remainders vanish there. -/
theorem tabLo_eq (h1 : ∀ i n, x1 (ix3 0 i n) = (c n i : EReal)) (n : Fin 2048) (h2 : ∀ i, x2 (ix3 0 n i) = (f i : EReal))
    (h : Ordered (fun n => d2 f (c n)) cl) (j : Fin 6) :
    tabLo (F := Ideal) (k0_pay10 x1) (k0_pay13 x1) (k0_pay14 x1) (k0_pay16 x1) x2 (ix2 n j) = (0 : EReal) := by
  have e := tabHi_eq h1 n h2 h j
  change k0_pay25 (F := Ideal) _ _ _ _ _ _ (ix2 ⟨n.val % 256, Nat.mod_lt _ (by norm_num)⟩ j) = _ at e
  show k0_pay26 (F := Ideal) _ _ _ _ _ _ (ix2 ⟨n.val % 256, Nat.mod_lt _ (by norm_num)⟩ j) = _
  pointwise [k0_pay26, k0_pay24]
  pointwise [k0_pay25, k0_pay24] at e
  rw [e, ← EReal.coe_sub, sub_self, EReal.coe_zero]

end Table

/-! # The network over the selected rows -/

section Net

variable {w : Weights} {q : Fin 128 → Pt} {o : Fin 128 → Fin 32 → Fin 2048} {f t : Fin 2048 → Pt}

/-- A block's squared terms, from the marks and the tables. -/
theorem net_eq {v24 : FVec Ideal S128x3 .f32} {v41 : FVec Ideal S128x128 .f32} {v68 : FVec Ideal S4096x2048 .bf16}
    {v69 v70 : FVec Ideal S2048x6 .bf16} {x8 : FVec Ideal S3x128 .f32} {x10 x12 : FVec Ideal S1x128 .f32}
    {x11 : FVec Ideal S128x128 .f32} {x13 : FVec Ideal S128x3 .f32} {x14 : FVec Ideal S1x3 .f32}
    (m : Fin 128) (k : Fin 32) (r : Fin 4096) (hm : r.val % 128 = m.val) {n : Fin 2048} {u v : Pt}
    (h24 : ∀ i, v24 (ix2 m i) = (q m i : EReal)) (h41 : ∀ j, v41 (ix2 m j) = ((∑ k, feat w (q m) k * w.sWz k j : ℝ) : EReal))
    (h68 : ∀ n', v68 (ix2 r n') = if n' = n then (1 : EReal) else 0)
    (h69 : ∀ j : Fin 6, v69 (ix2 n j) = ((if h : j.val < 3 then u ⟨j.val, h⟩ else v ⟨j.val - 3, by omega⟩ : ℝ) : EReal))
    (h70 : ∀ j, v70 (ix2 n j) = (0 : EReal))
    (h8 : ∀ i j, x8 (ix2 i j) = (w.sWx i j : EReal)) (h10 : ∀ j, x10 (ix2 0 j) = (w.sb1 j : EReal))
    (h11 : ∀ i j, x11 (ix2 i j) = (w.sW2 i j : EReal)) (h12 : ∀ j, x12 (ix2 0 j) = (w.sb2 j : EReal))
    (h13 : ∀ i j, x13 (ix2 i j) = (w.sW3 i j : EReal)) (h14 : ∀ j, x14 (ix2 0 j) = (w.sb3 j : EReal)) (i : Fin 3) :
    k0_pay30 (F := Ideal) v24 v41 v68 v69 v70 x8 x10 x11 x12 x13 x14 (ix3 0 r i)
      = (((v i - net w (fun i => u i - q m i) (feat w (q m)) i) ^ 2 : ℝ) : EReal) := by
  pointwise [k0_pay30]
  have e : (⟨r.val % 128, Nat.mod_lt _ (by norm_num)⟩ : Fin 128) = m := Fin.ext hm
  have a : ∀ i : Fin 3, ¬ (3 + i.val < 3) := fun i => by omega
  simp only [e, h68, sum_mark, h24, h41, h69, h70, h8, h10, h11, h12, h13, h14, add_zero, Fin.is_lt, dite_true, dif_neg (a i),
    Nat.add_sub_cancel_left, ← EReal.coe_sub, ← EReal.coe_mul, csum, ← EReal.coe_add, cmax]
  rw [pow_two]
  rfl

end Net

/-! # A block -/

/-- The squared terms of one block are the terms of the loss: row `128k + m` is the `k`-th neighbour of centre `m`. -/
theorem sq_eq {p c : Fin 2048 → Pt} {w : Weights} {a : Fin 128 → Fin 2048} {o : Fin 128 → Fin 32 → Fin 2048}
    {cl : Fin 128 → Fin 32 → Fin 4 → Fin 2048}
    {x0 x1 : FVec Ideal S1x3x2048 .f32} {x2 : FVec Ideal S1x2048x3 .f32} {x3 : IVec S128x1 32} {x4 : FVec Ideal S3x128 .f32}
    {x5 x7 : FVec Ideal S1x128 .f32} {x6 x9 : FVec Ideal S128x128 .f32} {x8 : FVec Ideal S3x128 .f32} {x10 x12 : FVec Ideal S1x128 .f32}
    {x11 : FVec Ideal S128x128 .f32} {x13 : FVec Ideal S128x3 .f32} {x14 : FVec Ideal S1x3 .f32}
    (h0 : ∀ i n, x0 (ix3 0 i n) = (p n i : EReal)) (h1 : ∀ i n, x1 (ix3 0 i n) = (c n i : EReal))
    (h2 : ∀ n i, x2 (ix3 0 n i) = (p n i : EReal)) (h3 : ∀ m, x3 (ix2 m 0) = BitVec.ofNat 32 (a m).val)
    (h4 : ∀ i j, x4 (ix2 i j) = (w.fW1 i j : EReal)) (h5 : ∀ j, x5 (ix2 0 j) = (w.fb1 j : EReal))
    (h6 : ∀ i j, x6 (ix2 i j) = (w.fW2 i j : EReal)) (h7 : ∀ j, x7 (ix2 0 j) = (w.fb2 j : EReal))
    (h8 : ∀ i j, x8 (ix2 i j) = (w.sWx i j : EReal)) (h9 : ∀ i j, x9 (ix2 i j) = (w.sWz i j : EReal))
    (h10 : ∀ j, x10 (ix2 0 j) = (w.sb1 j : EReal)) (h11 : ∀ i j, x11 (ix2 i j) = (w.sW2 i j : EReal))
    (h12 : ∀ j, x12 (ix2 0 j) = (w.sb2 j : EReal)) (h13 : ∀ i j, x13 (ix2 i j) = (w.sW3 i j : EReal))
    (h14 : ∀ j, x14 (ix2 0 j) = (w.sb3 j : EReal))
    (ho : ∀ m, Ordered (fun n => d2 (p (a m)) (p n)) (o m))
    (hc : ∀ m k, Ordered (fun n => d2 (p (o m k)) (c n)) (cl m k))
    (m : Fin 128) (k : Fin 32) (r : Fin 4096) (hm : r.val % 128 = m.val) (hk : r.val / 128 = k.val) (i : Fin 3) :
    sq (F := Ideal) x0 x1 x2 x3 x4 x5 x6 x7 x8 x9 x10 x11 x12 x13 x14 (ix3 0 r i)
      = (term w (p (a m)) (p (o m k)) (fun j => c (cl m k j)) i : EReal) := by
  have hq := centre_eq h0 h3
  exact net_eq (q := fun m => p (a m)) (u := p (o m k)) (v := fun i => (∑ j, c (cl m k j) i) * (1 / 4) - p (o m k) i) m k r hm (hq m) (zpart_eq hq h4 h5 h6 h7 h9 m)
    (sel_eq (fun m n => dist0_eq h0 hq m n) ho m k r hm hk)
    (tabHi_eq h1 (o m k) (h2 _) (hc m k)) (tabLo_eq h1 (o m k) (h2 _) (hc m k)) h8 h10 h11 h12 h13 h14 i

end Cert.KernelIdeal.Own

end
-- ==== Proof.KerRead.lean ====
module

public import proofs.«01_k».proof.Proof.Region
public import proofs.«01_k».proof.Proof.KerVal
public import Idealize.ShloMosaic.Lib.Pipeline.ValueKit
public import Idealize.ShloMosaic.Lib.Pointwise
public import Idealize.ShloMosaic.Lib.StableHlo.ReadAt

@[expose] public section

set_option maxRecDepth 16384

noncomputable section

/-! # The blocks of the windows, read in the arguments -/

namespace Cert.KernelIdeal.Own

open Cert.KernelIdeal Cert.KernelIdeal.Gen
open Idealize.ShloMosaic Idealize.ShloMosaic.TcCoe Idealize.ShloMosaic.Pointwise
open Idealize.ShloMosaic.Pipeline (Dat)

/-- The windows' block indices. -/
theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, _)

variable (m : (ℓ : Loc nD τ sig) → Buf (Elt Ideal) ℓ) (c : Dev nD)

/-! ## The arrays the host lines make -/

theorem host0 (b : Fin 8) (i : Fin 3) (n : Fin 2048) : (V m c main_v0 : FVec Ideal S8x3x2048 .f32) (ix3 b i n) = m ((c : Thread nD τ).loc main_arg0) (ix3 b n i) := by
  unfold V V0
  simp only [hostOps0, List.flatten_cons, List.flatten_nil, List.append_nil]
  after_reads_at
theorem host1 (b : Fin 8) (i : Fin 3) (n : Fin 2048) : (V m c main_v1 : FVec Ideal S8x3x2048 .f32) (ix3 b i n) = m ((c : Thread nD τ).loc main_arg1) (ix3 b n i) := by
  unfold V V0
  simp only [hostOps0, List.flatten_cons, List.flatten_nil, List.append_nil]
  after_reads_at
theorem host2 (i : Fin 128) : (V m c main_v2 : IVec S128x1 32) (ix2 i 0) = m ((c : Thread nD τ).loc main_arg2) (ix1 i) := by
  unfold V V0
  simp only [hostOps0, List.flatten_cons, List.flatten_nil, List.append_nil]
  after_reads_at
theorem host3 (j : Fin 128) : (V m c main_v3 : FVec Ideal S1x128 .f32) (ix2 0 j) = m ((c : Thread nD τ).loc main_arg4) (ix1 j) := by
  unfold V V0
  simp only [hostOps0, List.flatten_cons, List.flatten_nil, List.append_nil]
  after_reads_at
theorem host4 (j : Fin 128) : (V m c main_v4 : FVec Ideal S1x128 .f32) (ix2 0 j) = m ((c : Thread nD τ).loc main_arg6) (ix1 j) := by
  unfold V V0
  simp only [hostOps0, List.flatten_cons, List.flatten_nil, List.append_nil]
  after_reads_at
theorem host5 (i : Fin 3) (j : Fin 128) : (V m c main_v5 : FVec Ideal S3x128 .f32) (ix2 i j) = m ((c : Thread nD τ).loc main_arg7) (ix2 ⟨i.val, by omega⟩ j) := by
  unfold V V0
  simp only [hostOps0, List.flatten_cons, List.flatten_nil, List.append_nil]
  after_reads_at
theorem host6 (i : Fin 128) (j : Fin 128) : (V m c main_v6 : FVec Ideal S128x128 .f32) (ix2 i j) = m ((c : Thread nD τ).loc main_arg7) (ix2 ⟨3 + i.val, by omega⟩ j) := by
  unfold V V0
  simp only [hostOps0, List.flatten_cons, List.flatten_nil, List.append_nil]
  after_reads_at
theorem host7 (j : Fin 128) : (V m c main_v7 : FVec Ideal S1x128 .f32) (ix2 0 j) = m ((c : Thread nD τ).loc main_arg8) (ix1 j) := by
  unfold V V0
  simp only [hostOps0, List.flatten_cons, List.flatten_nil, List.append_nil]
  after_reads_at
theorem host8 (j : Fin 128) : (V m c main_v8 : FVec Ideal S1x128 .f32) (ix2 0 j) = m ((c : Thread nD τ).loc main_arg10) (ix1 j) := by
  unfold V V0
  simp only [hostOps0, List.flatten_cons, List.flatten_nil, List.append_nil]
  after_reads_at
theorem host9 (j : Fin 3) : (V m c main_v9 : FVec Ideal S1x3 .f32) (ix2 0 j) = m ((c : Thread nD τ).loc main_arg12) (ix1 j) := by
  unfold V V0
  simp only [hostOps0, List.flatten_cons, List.flatten_nil, List.append_nil]
  after_reads_at

/-! ## The blocks -/

variable (t : Fin cfg0.N) (b : Fin 8) (hb : b.val = t.val)

include hb in
theorem read0 (i : Fin 3) (n : Fin 2048) : (iblk m c 0 t : FVec Ideal S1x3x2048 .f32) (ix3 0 i n) = m ((c : Thread nD τ).loc main_arg0) (ix3 b n i) :=
  (show (iblk m c 0 t : FVec Ideal S1x3x2048 .f32) (ix3 0 i n) = V m c main_v0 (ix3 b i n) by blk_ext [iblk, idx t]).trans (host0 m c b i n)
include hb in
theorem read1 (i : Fin 3) (n : Fin 2048) : (iblk m c 1 t : FVec Ideal S1x3x2048 .f32) (ix3 0 i n) = m ((c : Thread nD τ).loc main_arg1) (ix3 b n i) :=
  (show (iblk m c 1 t : FVec Ideal S1x3x2048 .f32) (ix3 0 i n) = V m c main_v1 (ix3 b i n) by blk_ext [iblk, idx t]).trans (host1 m c b i n)
include hb in
theorem read2 (n : Fin 2048) (i : Fin 3) : (iblk m c 2 t : FVec Ideal S1x2048x3 .f32) (ix3 0 n i) = m ((c : Thread nD τ).loc main_arg0) (ix3 b n i) :=
  (show (iblk m c 2 t : FVec Ideal S1x2048x3 .f32) (ix3 0 n i) = V m c main_arg0 (ix3 b n i) by blk_ext [iblk, idx t]).trans (congrFun (V_main_arg0 m c) _)
theorem read3 (i : Fin 128) : (iblk m c 3 t : IVec S128x1 32) (ix2 i 0) = m ((c : Thread nD τ).loc main_arg2) (ix1 i) :=
  (show (iblk m c 3 t : IVec S128x1 32) (ix2 i 0) = V m c main_v2 (ix2 i 0) by blk_ext [iblk, idx t]).trans (host2 m c i)
theorem read4 (i : Fin 3) (j : Fin 128) : (iblk m c 4 t : FVec Ideal S3x128 .f32) (ix2 i j) = m ((c : Thread nD τ).loc main_arg3) (ix2 i j) :=
  (show (iblk m c 4 t : FVec Ideal S3x128 .f32) (ix2 i j) = V m c main_arg3 (ix2 i j) by blk_ext [iblk, idx t]).trans (congrFun (V_main_arg3 m c) _)
theorem read5 (j : Fin 128) : (iblk m c 5 t : FVec Ideal S1x128 .f32) (ix2 0 j) = m ((c : Thread nD τ).loc main_arg4) (ix1 j) :=
  (show (iblk m c 5 t : FVec Ideal S1x128 .f32) (ix2 0 j) = V m c main_v3 (ix2 0 j) by blk_ext [iblk, idx t]).trans (host3 m c j)
theorem read6 (i j : Fin 128) : (iblk m c 6 t : FVec Ideal S128x128 .f32) (ix2 i j) = m ((c : Thread nD τ).loc main_arg5) (ix2 i j) :=
  (show (iblk m c 6 t : FVec Ideal S128x128 .f32) (ix2 i j) = V m c main_arg5 (ix2 i j) by blk_ext [iblk, idx t]).trans (congrFun (V_main_arg5 m c) _)
theorem read7 (j : Fin 128) : (iblk m c 7 t : FVec Ideal S1x128 .f32) (ix2 0 j) = m ((c : Thread nD τ).loc main_arg6) (ix1 j) :=
  (show (iblk m c 7 t : FVec Ideal S1x128 .f32) (ix2 0 j) = V m c main_v4 (ix2 0 j) by blk_ext [iblk, idx t]).trans (host4 m c j)
theorem read8 (i : Fin 3) (j : Fin 128) : (iblk m c 8 t : FVec Ideal S3x128 .f32) (ix2 i j) = m ((c : Thread nD τ).loc main_arg7) (ix2 ⟨i.val, by omega⟩ j) :=
  (show (iblk m c 8 t : FVec Ideal S3x128 .f32) (ix2 i j) = V m c main_v5 (ix2 i j) by blk_ext [iblk, idx t]).trans (host5 m c i j)
theorem read9 (i j : Fin 128) : (iblk m c 9 t : FVec Ideal S128x128 .f32) (ix2 i j) = m ((c : Thread nD τ).loc main_arg7) (ix2 ⟨3 + i.val, by omega⟩ j) :=
  (show (iblk m c 9 t : FVec Ideal S128x128 .f32) (ix2 i j) = V m c main_v6 (ix2 i j) by blk_ext [iblk, idx t]).trans (host6 m c i j)
theorem read10 (j : Fin 128) : (iblk m c 10 t : FVec Ideal S1x128 .f32) (ix2 0 j) = m ((c : Thread nD τ).loc main_arg8) (ix1 j) :=
  (show (iblk m c 10 t : FVec Ideal S1x128 .f32) (ix2 0 j) = V m c main_v7 (ix2 0 j) by blk_ext [iblk, idx t]).trans (host7 m c j)
theorem read11 (i j : Fin 128) : (iblk m c 11 t : FVec Ideal S128x128 .f32) (ix2 i j) = m ((c : Thread nD τ).loc main_arg9) (ix2 i j) :=
  (show (iblk m c 11 t : FVec Ideal S128x128 .f32) (ix2 i j) = V m c main_arg9 (ix2 i j) by blk_ext [iblk, idx t]).trans (congrFun (V_main_arg9 m c) _)
theorem read12 (j : Fin 128) : (iblk m c 12 t : FVec Ideal S1x128 .f32) (ix2 0 j) = m ((c : Thread nD τ).loc main_arg10) (ix1 j) :=
  (show (iblk m c 12 t : FVec Ideal S1x128 .f32) (ix2 0 j) = V m c main_v8 (ix2 0 j) by blk_ext [iblk, idx t]).trans (host8 m c j)
theorem read13 (i : Fin 128) (j : Fin 3) : (iblk m c 13 t : FVec Ideal S128x3 .f32) (ix2 i j) = m ((c : Thread nD τ).loc main_arg11) (ix2 i j) :=
  (show (iblk m c 13 t : FVec Ideal S128x3 .f32) (ix2 i j) = V m c main_arg11 (ix2 i j) by blk_ext [iblk, idx t]).trans (congrFun (V_main_arg11 m c) _)
theorem read14 (j : Fin 3) : (iblk m c 14 t : FVec Ideal S1x3 .f32) (ix2 0 j) = m ((c : Thread nD τ).loc main_arg12) (ix1 j) :=
  (show (iblk m c 14 t : FVec Ideal S1x3 .f32) (ix2 0 j) = V m c main_v9 (ix2 0 j) by blk_ext [iblk, idx t]).trans (host9 m c j)

end Cert.KernelIdeal.Own

end
-- ==== Proof.KerTotal.lean ====
module

public import proofs.«01_k».proof.Proof.KerRead

@[expose] public section

set_option maxRecDepth 16384

noncomputable section

/-! # The kernel's result as a real number -/

namespace Cert.Model

/-- The sum of a block's terms: `T m k i` is the term of centre `m`, neighbour `k`, coordinate `i`. -/
def blockSum (T : Fin 128 → Fin 32 → Pt) : ℝ :=
  ∑ r : Fin 4096, ∑ i, T ⟨r.val % 128, Nat.mod_lt _ (by norm_num)⟩ ⟨r.val / 128, by omega⟩ i

end Cert.Model

namespace Cert.KernelIdeal.Own

open Cert.KernelIdeal Cert.KernelIdeal.Gen Cert.Model
open Idealize.ShloMosaic Idealize.ShloMosaic.TcCoe Idealize.ShloMosaic.Pointwise

theorem scale_eq : Ideal.ofBits .f32 0x3AC80000#32 = ((50 / 32768 : ℝ) : EReal) := by
  simp [Ideal.ofBits, Ideal.ieee]
  rw [← EReal.coe_mul]
  norm_num

/-- A block's sum joins the running total. -/
theorem pay1_eq {v : FVec Ideal S1x4096x3 .f32} {T : Fin 4096 → Fin 3 → ℝ} (h : ∀ r i, v (ix3 0 r i) = (T r i : EReal)) (s : ℝ) :
    k0_pay1 (F := Ideal) v (s : EReal) = ((s + ∑ r, ∑ i, T r i : ℝ) : EReal) := by
  pointwise [k0_pay1]
  simp only [h, csum, ← EReal.coe_add]

/-- The last scaling. -/
theorem pay2_eq (s : ℝ) : k0_pay2 (F := Ideal) (s : EReal) = ((s * (50 / 32768) : ℝ) : EReal) := by
  pointwise [k0_pay2]
  rw [scale_eq, ← EReal.coe_mul]

variable (m : (ℓ : Loc nD τ sig) → Buf (Elt Ideal) ℓ) (c : Dev nD)

/-- The running total after block `n`. -/
theorem acc_eq {T : Fin 8 → Fin 4096 → Fin 3 → ℝ}
    (h : ∀ (t : Fin cfg0.N) (b : Fin 8), b.val = t.val → ∀ r i, sqAt m c t (ix3 0 r i) = (T b r i : EReal)) (n : ℕ)
    (hn : n < cfg0.N) (hn' : n < 8) :
    acc m c n hn = ((∑ b : Fin 8, if b.val ≤ n then ∑ r, ∑ i, T b r i else 0 : ℝ) : EReal) := by
  induction n with
  | zero =>
    refine (congrArg (k0_pay1 (F := Ideal) _) (show Ideal.ofBits .f32 0x00000000#32 = ((0 : ℝ) : EReal) from Ideal.ofBits_zero_f32)).trans
      ((pay1_eq (h ⟨0, hn⟩ 0 rfl) 0).trans ?_)
    simp [Fin.sum_univ_eight]
  | succ n ih =>
    refine (congrArg (k0_pay1 (F := Ideal) _) (ih (Nat.lt_of_succ_lt hn) (by omega))).trans
      ((pay1_eq (h ⟨n + 1, hn⟩ ⟨n + 1, hn'⟩ rfl) _).trans ?_)
    rw [EReal.coe_eq_coe_iff]
    have e : ∀ b : Fin 8, (if b.val ≤ n + 1 then ∑ r, ∑ i, T b r i else 0)
        = (if b.val ≤ n then ∑ r, ∑ i, T b r i else 0) + if b = ⟨n + 1, hn'⟩ then ∑ r, ∑ i, T b r i else 0 := by
      intro b
      by_cases h1 : b.val ≤ n
      · rw [if_pos h1, if_pos (by omega), if_neg (fun h => by rw [h] at h1; simp at h1), add_zero]
      · by_cases h2 : b = ⟨n + 1, hn'⟩
        · rw [if_neg h1, if_pos h2, if_pos (by rw [h2]), zero_add]
        · rw [if_neg h1, if_neg h2, if_neg (fun h => h2 (Fin.ext (by simp; omega))), add_zero]
    rw [Finset.sum_congr rfl fun b _ => e b, Finset.sum_add_distrib, Finset.sum_ite_eq' Finset.univ, if_pos (Finset.mem_univ _)]

/-- THE KERNEL'S RESULT: the sum of all terms of the loss, scaled. -/
theorem total_eq {P C : Fin 8 → Fin 2048 → Pt} {w : Weights} {a : Fin 128 → Fin 2048} {o : Fin 8 → Fin 128 → Fin 32 → Fin 2048}
    {cl : Fin 8 → Fin 128 → Fin 32 → Fin 4 → Fin 2048}
    (h0 : ∀ b n i, m ((c : Thread nD τ).loc main_arg0) (ix3 b n i) = (P b n i : EReal))
    (h1 : ∀ b n i, m ((c : Thread nD τ).loc main_arg1) (ix3 b n i) = (C b n i : EReal))
    (h2 : ∀ j, m ((c : Thread nD τ).loc main_arg2) (ix1 j) = BitVec.ofNat 32 (a j).val)
    (h3 : ∀ i j, m ((c : Thread nD τ).loc main_arg3) (ix2 i j) = (w.fW1 i j : EReal))
    (h4 : ∀ j, m ((c : Thread nD τ).loc main_arg4) (ix1 j) = (w.fb1 j : EReal))
    (h5 : ∀ i j, m ((c : Thread nD τ).loc main_arg5) (ix2 i j) = (w.fW2 i j : EReal))
    (h6 : ∀ j, m ((c : Thread nD τ).loc main_arg6) (ix1 j) = (w.fb2 j : EReal))
    (h7x : ∀ (i : Fin 3) (j : Fin 128), m ((c : Thread nD τ).loc main_arg7) (ix2 ⟨i.val, by omega⟩ j) = (w.sWx i j : EReal))
    (h7z : ∀ (i : Fin 128) (j : Fin 128), m ((c : Thread nD τ).loc main_arg7) (ix2 ⟨3 + i.val, by omega⟩ j) = (w.sWz i j : EReal))
    (h8 : ∀ j, m ((c : Thread nD τ).loc main_arg8) (ix1 j) = (w.sb1 j : EReal))
    (h9 : ∀ i j, m ((c : Thread nD τ).loc main_arg9) (ix2 i j) = (w.sW2 i j : EReal))
    (h10 : ∀ j, m ((c : Thread nD τ).loc main_arg10) (ix1 j) = (w.sb2 j : EReal))
    (h11 : ∀ i j, m ((c : Thread nD τ).loc main_arg11) (ix2 i j) = (w.sW3 i j : EReal))
    (h12 : ∀ j, m ((c : Thread nD τ).loc main_arg12) (ix1 j) = (w.sb3 j : EReal))
    (ho : ∀ b m, Ordered (fun n => d2 (P b (a m)) (P b n)) (o b m))
    (hc : ∀ b m k, Ordered (fun n => d2 (P b (o b m k)) (C b n)) (cl b m k)) :
    totalAt m c tLast (ValueIdx.ix2 0 0)
      = (((∑ b, blockSum fun m k => term w (P b (a m)) (P b (o b m k)) fun j => C b (cl b m k j)) * (50 / 32768) : ℝ) : EReal) := by
  have hs : ∀ (t : Fin cfg0.N) (b : Fin 8), b.val = t.val → ∀ r i, sqAt m c t (ix3 0 r i) = (term w
      (P b (a ⟨r.val % 128, Nat.mod_lt _ (by norm_num)⟩)) (P b (o b ⟨r.val % 128, Nat.mod_lt _ (by norm_num)⟩ ⟨r.val / 128, by omega⟩))
      (fun j => C b (cl b ⟨r.val % 128, Nat.mod_lt _ (by norm_num)⟩ ⟨r.val / 128, by omega⟩ j)) i : EReal) := by
    intro t b hb r i
    exact sq_eq (fun i n => (read0 m c t b hb i n).trans (h0 b n i)) (fun i n => (read1 m c t b hb i n).trans (h1 b n i))
      (fun n i => (read2 m c t b hb n i).trans (h0 b n i)) (fun j => (read3 m c t j).trans (h2 j))
      (fun i j => (read4 m c t i j).trans (h3 i j)) (fun j => (read5 m c t j).trans (h4 j))
      (fun i j => (read6 m c t i j).trans (h5 i j)) (fun j => (read7 m c t j).trans (h6 j))
      (fun i j => (read8 m c t b i j).trans (h7x i j)) (fun i j => (read9 m c t b i j).trans (h7z i j))
      (fun j => (read10 m c t j).trans (h8 j)) (fun i j => (read11 m c t i j).trans (h9 i j))
      (fun j => (read12 m c t j).trans (h10 j)) (fun i j => (read13 m c t i j).trans (h11 i j))
      (fun j => (read14 m c t j).trans (h12 j)) (ho b) (hc b) _ _ r rfl rfl i
  have hb : ∀ b : Fin 8, b.val ≤ 7 := fun b => by omega
  have ht : acc m c 7 tLast.isLt
      = ((∑ b, blockSum fun m k => term w (P b (a m)) (P b (o b m k)) fun j => C b (cl b m k j) : ℝ) : EReal) := by
    refine (acc_eq m c hs 7 tLast.isLt (by norm_num)).trans ?_
    simp only [hb, if_true]
    rfl
  have hl : totalAt m c tLast (ValueIdx.ix2 0 0) = k0_pay2 (acc m c 7 tLast.isLt) := if_pos (show tLast.val % 8 = 7 from rfl)
  rw [hl, ht]
  exact pay2_eq _

end Cert.KernelIdeal.Own

end
-- ==== Proof.Gathers.lean ====
module

public import proofs.«01_k».proof.Proof.Model
public import Idealize.ShloMosaic.Lib.Pointwise
public import Idealize.ShloMosaic.Lib.StableHlo.Predicate

@[expose] public section

noncomputable section

/-! # Rows of a table at given positions, and a word that is a position -/

namespace Cert.Model

open Idealize.ShloMosaic

/-- The whole number that a word which holds a position below `N` reads as, bounded as a gather bounds it. -/
theorem toNat_word {N n : ℕ} (hn : n < N) (hN : N < 2 ^ 31) : min (BitVec.ofNat 32 n).toInt.toNat (N - 1) = n := by
  rw [StableHlo.Predicate.toInt_ofNat_small n (by omega)]
  omega

/-- A gather of rows along the middle axis of a table, one position per result row. -/
theorem gather_rows {α : Type} {A N C M : ℕ} (hN : N < 2 ^ 31)
    (wf : GatherDims.WF ⟨3, ![A, N, C]⟩ ⟨2, ![M, 1]⟩ ⟨3, ![A, M, C]⟩ [0, 2] [1] [] [1] [] 1 ![A, 1, C])
    (x : (⟨3, ![A, N, C]⟩ : Shape).Idx → α) (idx : IVec ⟨2, ![M, 1]⟩ 32) (a : Fin A) (m : Fin M) (i : Fin C) (n : Fin N)
    (h : idx (ix2 m 0) = BitVec.ofNat 32 n.val) :
    Host.gather (⟨[0, 2], [1], [], [], [1], 1, ![A, 1, C], wf⟩ : GatherDims ⟨3, ![A, N, C]⟩ ⟨2, ![M, 1]⟩ ⟨3, ![A, M, C]⟩) x idx (ix3 a m i)
      = x (ix3 a n i) := by
  refine congrArg x (funext fun b => Fin.ext ?_)
  match b with
  | ⟨0, _⟩ => exact (congrArg (· + a.val) (Nat.add_zero 0)).trans (Nat.zero_add _)
  | ⟨1, _⟩ =>
    have e : GatherDims.siIdx (⟨[0, 2], [1], [], [], [1], 1, ![A, 1, C], wf⟩ : GatherDims ⟨3, ![A, N, C]⟩ ⟨2, ![M, 1]⟩ ⟨3, ![A, M, C]⟩) (ix3 a m i) ⟨0, Nat.zero_lt_succ _⟩
        = ix2 m 0 := by
      funext b
      match b with
      | ⟨0, _⟩ => rfl
      | ⟨1, _⟩ => rfl
    show min (idx (GatherDims.siIdx _ _ ⟨0, _⟩)).toInt.toNat (N - 1) + 0 + 0 = n.val
    rw [e, h]
    exact toNat_word n.isLt hN
  | ⟨2, _⟩ => exact (congrArg (· + i.val) (Nat.add_zero 0)).trans (Nat.zero_add _)

/-- A gather of rows along the middle axis of a table, the positions given for every block apart. -/
theorem gather_block_rows {α : Type} {A N C M K : ℕ} (hN : N < 2 ^ 31)
    (wf : GatherDims.WF ⟨3, ![A, N, C]⟩ ⟨4, ![A, M, K, 1]⟩ ⟨4, ![A, M, K, C]⟩ [3] [1] [0] [1] [0] 3 ![1, 1, C])
    (x : (⟨3, ![A, N, C]⟩ : Shape).Idx → α) (idx : IVec ⟨4, ![A, M, K, 1]⟩ 32) (a : Fin A) (m : Fin M) (k : Fin K) (i : Fin C) (n : Fin N)
    (h : idx (ix4 a m k 0) = BitVec.ofNat 32 n.val) :
    Host.gather (⟨[3], [1], [0], [0], [1], 3, ![1, 1, C], wf⟩ : GatherDims ⟨3, ![A, N, C]⟩ ⟨4, ![A, M, K, 1]⟩ ⟨4, ![A, M, K, C]⟩) x idx (ix4 a m k i)
      = x (ix3 a n i) := by
  refine congrArg x (funext fun b => Fin.ext ?_)
  match b with
  | ⟨0, _⟩ => exact Nat.zero_add a.val
  | ⟨1, _⟩ =>
    have e : GatherDims.siIdx (⟨[3], [1], [0], [0], [1], 3, ![1, 1, C], wf⟩ : GatherDims ⟨3, ![A, N, C]⟩ ⟨4, ![A, M, K, 1]⟩ ⟨4, ![A, M, K, C]⟩) (ix4 a m k i) ⟨0, Nat.zero_lt_succ _⟩
        = ix4 a m k 0 := by
      funext b
      match b with
      | ⟨0, _⟩ => rfl
      | ⟨1, _⟩ => rfl
      | ⟨2, _⟩ => rfl
      | ⟨3, _⟩ => rfl
    show min (idx (GatherDims.siIdx _ _ ⟨0, _⟩)).toInt.toNat (N - 1) + 0 + 0 = n.val
    rw [e, h]
    exact toNat_word n.isLt hN
  | ⟨2, _⟩ => exact (congrArg (· + i.val) (Nat.add_zero 0)).trans (Nat.zero_add _)

/-- A position is not negative, read as a signed word, so that a wrap of the negative ones leaves it. -/
theorem wrap_word {n : ℕ} (hn : n < 2 ^ 31) (y : BitVec 32) :
    (if IntOp.cmpi .slt (BitVec.ofNat 32 n) 0#32 = 1#1 then y else BitVec.ofNat 32 n) = BitVec.ofNat 32 n := by
  refine if_neg fun e => ?_
  have h : (BitVec.ofNat 32 n).slt 0#32 = false := by
    rw [BitVec.slt_eq_decide, StableHlo.Predicate.toInt_ofNat_small n hn]
    exact decide_eq_false (by simp)
  have : IntOp.cmpi .slt (BitVec.ofNat 32 n) 0#32 = BitVec.ofBool ((BitVec.ofNat 32 n).slt 0#32) := rfl
  rw [this, h] at e
  exact absurd e (by decide)

end Cert.Model
-- ==== Proof.Topk.lean ====
module

public import proofs.«01_k».proof.Proof.Model
public import Idealize.ShloMosaic.Lib.Pointwise
public import Idealize.ShloMosaic.Lib.SortFacts

@[expose] public section

noncomputable section

/-! # The nearest points, as a top-k of negated distances selects them -/

namespace Cert.Model

open Idealize.ShloMosaic
open Idealize.ShloMosaic.ValueIdx hiding ix0 ix1 ix2 ix3 ix4

/-- A top-k along the last of three axes, whose entries there are the negated distances `d`: the positions are those of
    distinct points, none of the points left out before a position is nearer than that position's. -/
theorem topK_nearest {A M N K : ℕ} (hK : K ≤ N) (x : FVec Ideal ⟨3, ![A, M, N]⟩ .f32)
    (h : (⟨3, ![A, M, N]⟩ : Shape).Slices (fun _ => 0) ⟨3, ![A, M, K]⟩) (a : Fin A) (m : Fin M) (d : Fin N → ℝ)
    (hx : ∀ n, x (ix3 a m n) = ((-(d n) : ℝ) : EReal)) :
    ∃ o : Fin K → Fin N, Function.Injective o ∧ (∀ k n, (∀ j, j < k → o j ≠ n) → d (o k) ≤ d n)
      ∧ (∀ k, (Host.topK ⟨3, ![A, M, K]⟩ 2 (FloatOps.cmpfTotal (F := Ideal) (φ := .f32) .gt) x h).1 (ix3 a m k) = ((-(d (o k)) : ℝ) : EReal))
      ∧ ∀ k, (Host.topK ⟨3, ![A, M, K]⟩ 2 (FloatOps.cmpfTotal (F := Ideal) (φ := .f32) .gt) x h).2 (ix3 a m k) = BitVec.ofNat 32 (o k).val := by
  let R : Fin N → Fin N → Bool := fun i j => decide (d i < d j)
  have al : ∀ (k : Fin K) (n : Fin N) (e : Fin N),
      (ix3 a m e : (⟨3, ![A, M, N]⟩ : Shape).Idx).along (2 : Fin 3) n = ix3 a m n := by
    intro k n e; funext b
    match b with
    | ⟨0, _⟩ => rfl
    | ⟨1, _⟩ => rfl
    | ⟨2, _⟩ => rfl
  have cut : ∀ k : Fin K, (fun b : Fin 3 => (⟨0 + ((ix3 a m k : (⟨3, ![A, M, K]⟩ : Shape).Idx) (b.cast h.1.symm)).val,
      Nat.lt_of_lt_of_le (Nat.add_lt_add_left ((ix3 a m k : (⟨3, ![A, M, K]⟩ : Shape).Idx) _).isLt _) (h.2 b)⟩ : Fin ((⟨3, ![A, M, N]⟩ : Shape).size b)))
      = ix3 a m (Fin.castLE hK k) := by
    intro k; funext b
    match b with
    | ⟨0, _⟩ => exact Fin.ext (Nat.zero_add _)
    | ⟨1, _⟩ => exact Fin.ext (Nat.zero_add _)
    | ⟨2, _⟩ => exact Fin.ext (Nat.zero_add _)
  have before : ∀ k : Fin K, (fun i j : Fin N => FloatOps.cmpfTotal (F := Ideal) (φ := .f32) .gt
      (x ((ix3 a m (Fin.castLE hK k) : (⟨3, ![A, M, N]⟩ : Shape).Idx).along (2 : Fin 3) i))
      (x ((ix3 a m (Fin.castLE hK k) : (⟨3, ![A, M, N]⟩ : Shape).Idx).along (2 : Fin 3) j)) == 1#1) = R := by
    intro k; funext i j
    rw [al k, al k, hx, hx]
    show (BitVec.ofBool (decide (((-(d i) : ℝ) : EReal) > ((-(d j) : ℝ) : EReal))) == 1#1) = decide (d i < d j)
    have e : ((((-(d i) : ℝ) : EReal) > ((-(d j) : ℝ) : EReal))) ↔ d i < d j := by
      rw [gt_iff_lt, EReal.coe_lt_coe_iff, neg_lt_neg_iff]
    by_cases hd : d i < d j
    · rw [decide_eq_true (e.2 hd), decide_eq_true hd]; rfl
    · rw [decide_eq_false (fun t => hd (e.1 t)), decide_eq_false hd]; rfl
  let c : Fin K → (⟨3, ![A, M, N]⟩ : Shape).Idx := fun k b => ⟨0 + ((ix3 a m k : (⟨3, ![A, M, K]⟩ : Shape).Idx) (b.cast h.1.symm)).val,
      Nat.lt_of_lt_of_le (Nat.add_lt_add_left ((ix3 a m k : (⟨3, ![A, M, K]⟩ : Shape).Idx) _).isLt _) (h.2 b)⟩
  have hc : ∀ k, c k = ix3 a m (Fin.castLE hK k) := cut
  refine ⟨fun k => sortedFrom R (Fin.castLE hK k), ?_, ?_, ?_, ?_⟩
  · intro i j e
    exact Fin.castLE_injective hK (sortedFrom_injective R e)
  · intro k n hn
    obtain ⟨i, rfl⟩ := sortedFrom_surjective R n
    by_cases hi : i < Fin.castLE hK k
    · exact absurd rfl (hn ⟨i.val, lt_trans hi k.isLt⟩ hi)
    · rcases eq_or_lt_of_le (not_lt.1 hi) with e | e
      · subst e; exact le_refl _
      · have := sortedFrom_noInversion R R (fun a b r => decide_eq_false (lt_asymm (of_decide_eq_true r))) (fun _ _ r => r)
          (fun a b c p q => decide_eq_false (not_lt.2 ((not_lt.1 (of_decide_eq_false q)).trans (not_lt.1 (of_decide_eq_false p))))) _ _ e
        exact not_lt.1 (of_decide_eq_false this)
  · intro k
    have v : (Host.topK ⟨3, ![A, M, K]⟩ 2 (FloatOps.cmpfTotal (F := Ideal) (φ := .f32) .gt) x h).1 (ix3 a m k)
        = x ((c k).along (2 : Fin 3) (sortedFrom (fun i j : Fin N => FloatOps.cmpfTotal (F := Ideal) (φ := .f32) .gt
          (x ((c k).along (2 : Fin 3) i)) (x ((c k).along (2 : Fin 3) j)) == 1#1) (c k (2 : Fin 3)))) := rfl
    rw [v, hc k, before k]
    exact (congrArg x (al k _ _)).trans (hx _)
  · intro k
    have v : (Host.topK ⟨3, ![A, M, K]⟩ 2 (FloatOps.cmpfTotal (F := Ideal) (φ := .f32) .gt) x h).2 (ix3 a m k)
        = BitVec.ofNat 32 (((c k).along (2 : Fin 3) (sortedFrom (fun i j : Fin N => FloatOps.cmpfTotal (F := Ideal) (φ := .f32) .gt
          (x ((c k).along (2 : Fin 3) i)) (x ((c k).along (2 : Fin 3) j)) == 1#1) (c k (2 : Fin 3)))) (2 : Fin 3)).val := rfl
    rw [v, hc k, before k]
    rfl

end Cert.Model
-- ==== Proof.RefVal.lean ====
module

public import proofs.«01_k».proof.Proof.RefStage
public import proofs.«01_k».proof.Proof.KerTotal
public import proofs.«01_k».proof.Proof.Gathers
public import proofs.«01_k».proof.Proof.Topk

@[expose] public section

set_option maxRecDepth 16384

noncomputable section

/-! # The reference's stages at an index, as real numbers -/

namespace Cert.ReferenceIdeal.Own

open Cert.ReferenceIdeal Cert.ReferenceIdeal.Gen Cert.Model
open Idealize.ShloMosaic Idealize.ShloMosaic.Pointwise

/-! ## Constants and scalar operations on real numbers -/

theorem four_eq : Ideal.ofBits .f32 0x40800000#32 = ((4 : ℝ) : EReal) := by
  simp [Ideal.ofBits, Ideal.ieee]
  rw [← EReal.coe_mul]
  norm_num
theorem neg_one_eq : Ideal.ofBits .f32 0xBF800000#32 = ((-1 : ℝ) : EReal) := by
  simp [Ideal.ofBits, Ideal.ieee]
  rw [← EReal.coe_mul]
  norm_num
theorem hundred_eq : Ideal.ofBits .f32 0x42C80000#32 = ((100 : ℝ) : EReal) := by
  simp [Ideal.ofBits, Ideal.ieee]
  rw [← EReal.coe_mul]
  norm_num
theorem count_eq : Ideal.ofBits .f32 0x47000000#32 = ((32768 : ℝ) : EReal) := by
  simp [Ideal.ofBits, Ideal.ieee]
  rw [← EReal.coe_mul]
  norm_num
theorem half_eq : Ideal.ofBits .f32 0x3F000000#32 = ((1 / 2 : ℝ) : EReal) := by
  simp [Ideal.ofBits, Ideal.ieee]
  rw [← EReal.coe_mul]
  norm_num

theorem div_real (x y : ℝ) (hy : y ≠ 0) : Ideal.div (x : EReal) (y : EReal) = ((x / y : ℝ) : EReal) := by
  rw [Ideal.div, if_neg (fun h => hy (EReal.coe_eq_zero.1 h)), ← EReal.coe_inv, ← EReal.coe_mul, div_eq_mul_inv]

theorem pow_real (x : ℝ) : Ideal.pow (x : EReal) ((2 : ℝ) : EReal) = ((x ^ 2 : ℝ) : EReal) :=
  congrArg (fun t : ℝ => (t : EReal)) (Real.rpow_two x)

/-! ## The gathers -/

theorem picks_eq {i : IVec S128 32} {n : Fin 2048} {j : Fin 128} (h : i (ix1 j) = BitVec.ofNat 32 n.val) :
    picks i (ix2 j 0) = BitVec.ofNat 32 n.val := by
  pointwise [picks]
  rw [h]
  exact wrap_word (lt_trans n.isLt (by norm_num)) _

theorem centres_eq {i : IVec S128 32} {n : Fin 2048} {j : Fin 128} (h : i (ix1 j) = BitVec.ofNat 32 n.val)
    (x : FVec Ideal S8x2048x3 .f32) (b : Fin 8) (k : Fin 3) : centres x i (ix3 b j k) = x (ix3 b n k) :=
  gather_rows (by norm_num) _ x (picks i) b j k n (picks_eq h)

theorem picked_eq {i : IVec S128 32} {n : Fin 2048} {j : Fin 128} (h : i (ix1 j) = BitVec.ofNat 32 n.val)
    (z : FVec Ideal S8x2048x128 .f32) (b : Fin 8) (k : Fin 128) : picked z i (ix3 b j k) = z (ix3 b n k) :=
  gather_rows (by norm_num) _ z (picks i) b j k n (picks_eq h)

theorem frames_eq {i : IVec S8x128x32 32} {n : Fin 2048} {b : Fin 8} {r : Fin 128} {k : Fin 32}
    (h : i (ix3 b r k) = BitVec.ofNat 32 n.val) (x : FVec Ideal S8x2048x3 .f32) (j : Fin 3) :
    frames x i (ix4 b r k j) = x (ix3 b n j) := by
  refine gather_block_rows (by norm_num) _ x _ b r k j n ?_
  pointwise []
  rw [h]
  exact wrap_word (lt_trans n.isLt (by norm_num)) _

theorem cleans_eq {i : IVec S1024x32x4 32} {n : Fin 2048} {r : Fin 1024} {k : Fin 32} {l : Fin 4}
    (h : i (ix3 r k l) = BitVec.ofNat 32 n.val) (x : FVec Ideal S1024x2048x3 .f32) (j : Fin 3) :
    cleans x i (ix4 r k l j) = x (ix3 r n j) := by
  refine gather_block_rows (by norm_num) _ x _ r k l j n ?_
  pointwise []
  rw [h]
  exact wrap_word (lt_trans n.isLt (by norm_num)) _

/-! ## The reshapes -/

/-- The place of a training point in the list of those of all clouds. -/
def at1 (b : Fin 8) (r : Fin 128) : Fin 1024 := ⟨b.val * 128 + r.val, by omega⟩

theorem flat_eq (f : FVec Ideal S8x128x32x3 .f32) (b : Fin 8) (r : Fin 128) (k : Fin 32) (i : Fin 3) :
    flat f (ix3 (at1 b r) k i) = f (ix4 b r k i) := by
  unfold at1
  pointwise [flat]

theorem clouds_eq (x : FVec Ideal S8x2048x3 .f32) (b : Fin 8) (r : Fin 128) (n : Fin 2048) (i : Fin 3) :
    clouds x (ix3 (at1 b r) n i) = x (ix3 b n i) := by
  unfold at1
  pointwise [clouds]

/-! ## Distances, and the nearest points -/

theorem dist0_eq {q : FVec Ideal S8x128x3 .f32} {x : FVec Ideal S8x2048x3 .f32} {b : Fin 8} {r : Fin 128} {n : Fin 2048} {Q X : Pt}
    (hq : ∀ i, q (ix3 b r i) = (Q i : EReal)) (hx : ∀ i, x (ix3 b n i) = (X i : EReal)) :
    dist0 q x (ix3 b r n) = (d2 Q X : EReal) := by
  pointwise [dist0]
  simp only [hq, hx, Cert.KernelIdeal.Own.two_eq, ← EReal.coe_mul, csum, ← EReal.coe_add, ← EReal.coe_sub]
  rfl

theorem dist1_eq {q : FVec Ideal S1024x32x3 .f32} {x : FVec Ideal S1024x2048x3 .f32} {r : Fin 1024} {k : Fin 32} {n : Fin 2048} {Q X : Pt}
    (hq : ∀ i, q (ix3 r k i) = (Q i : EReal)) (hx : ∀ i, x (ix3 r n i) = (X i : EReal)) :
    dist1 q x (ix3 r k n) = (d2 Q X : EReal) := by
  pointwise [dist1]
  simp only [hq, hx, Cert.KernelIdeal.Own.two_eq, ← EReal.coe_mul, csum, ← EReal.coe_add, ← EReal.coe_sub]
  rfl

theorem near0_eq {D : FVec Ideal S8x128x2048 .f32} {b : Fin 8} {r : Fin 128} {d : Fin 2048 → ℝ} (h : ∀ n, D (ix3 b r n) = (d n : EReal)) :
    ∃ o : Fin 32 → Fin 2048, Function.Injective o ∧ (∀ k n, (∀ j, j < k → o j ≠ n) → d (o k) ≤ d n)
      ∧ (∀ k, (near0 D).1 (ix3 b r k) = ((-(d (o k)) : ℝ) : EReal)) ∧ ∀ k, (near0 D).2 (ix3 b r k) = BitVec.ofNat 32 (o k).val :=
  topK_nearest (by norm_num) _ _ b r d fun n => by
    pointwise []
    rw [h, EReal.coe_neg]

theorem near1_eq {D : FVec Ideal S1024x32x2048 .f32} {r : Fin 1024} {k : Fin 32} {d : Fin 2048 → ℝ} (h : ∀ n, D (ix3 r k n) = (d n : EReal)) :
    ∃ o : Fin 4 → Fin 2048, Function.Injective o ∧ (∀ l n, (∀ j, j < l → o j ≠ n) → d (o l) ≤ d n)
      ∧ (∀ l, (near1 D).1 (ix3 r k l) = ((-(d (o l)) : ℝ) : EReal)) ∧ ∀ l, (near1 D).2 (ix3 r k l) = BitVec.ofNat 32 (o l).val :=
  topK_nearest (by norm_num) _ _ r k d fun n => by
    pointwise []
    rw [h, EReal.coe_neg]

/-! ## The target, the networks and the loss -/

theorem noise_eq {f : FVec Ideal S8x128x32x3 .f32} {n : FVec Ideal S1024x32x4x3 .f32} {b : Fin 8} {r : Fin 128} {k : Fin 32} {i : Fin 3}
    {F : ℝ} {C : Fin 4 → ℝ} (hf : f (ix4 b r k i) = (F : EReal)) (hn : ∀ l, n (ix4 (at1 b r) k l i) = (C l : EReal)) :
    noise f n (ix4 b r k i) = (((∑ l, (F - C l)) / 4 : ℝ) : EReal) := by
  unfold at1 at hn
  pointwise [noise]
  simp only [hf, hn, four_eq, ← EReal.coe_sub, csum]
  exact div_real _ _ (by norm_num)

theorem feats_eq {x : FVec Ideal S8x2048x3 .f32} {u : FVec Ideal S3x128 .f32} {e : FVec Ideal S128 .f32}
    {v : FVec Ideal S128x128 .f32} {g : FVec Ideal S128 .f32} {w : Weights} {b : Fin 8} {n : Fin 2048} {X : Pt}
    (hx : ∀ i, x (ix3 b n i) = (X i : EReal)) (hu : ∀ i j, u (ix2 i j) = (w.fW1 i j : EReal)) (he : ∀ j, e (ix1 j) = (w.fb1 j : EReal))
    (hv : ∀ i j, v (ix2 i j) = (w.fW2 i j : EReal)) (hg : ∀ j, g (ix1 j) = (w.fb2 j : EReal)) (j : Fin 128) :
    feats x u e v g (ix3 b n j) = (feat w X j : EReal) := by
  pointwise [feats]
  simp only [hx, hu, he, hv, hg, ← EReal.coe_mul, csum, ← EReal.coe_add, cmax]
  rfl

theorem about_eq {f : FVec Ideal S8x128x32x3 .f32} {q : FVec Ideal S8x128x3 .f32} {b : Fin 8} {r : Fin 128} {k : Fin 32} {i : Fin 3}
    {F Q : ℝ} (hf : f (ix4 b r k i) = (F : EReal)) (hq : q (ix3 b r i) = (Q : EReal)) :
    flat (about f q) (ix3 (at1 b r) k i) = ((F - Q : ℝ) : EReal) := by
  rw [flat_eq]
  pointwise [about]
  rw [hf, hq, ← EReal.coe_sub]

theorem layer1_eq {x : FVec Ideal S1024x32x3 .f32} {z : FVec Ideal S8x128x128 .f32} {u : FVec Ideal S131x128 .f32} {e : FVec Ideal S128 .f32}
    {w : Weights} {b : Fin 8} {r : Fin 128} {k : Fin 32} {X : Pt} {Z : Fin 128 → ℝ}
    (hx : ∀ i, x (ix3 (at1 b r) k i) = (X i : EReal)) (hz : ∀ i, z (ix3 b r i) = (Z i : EReal))
    (hux : ∀ (i : Fin 3) j, u (ix2 ⟨i.val, by omega⟩ j) = (w.sWx i j : EReal))
    (huz : ∀ (i : Fin 128) j, u (ix2 ⟨3 + i.val, by omega⟩ j) = (w.sWz i j : EReal)) (he : ∀ j, e (ix1 j) = (w.sb1 j : EReal)) (j : Fin 128) :
    layer1 x z u e (ix3 (at1 b r) k j) = (h1 w X Z j : EReal) := by
  unfold at1 at *
  pointwise [layer1, Value.fn_main_v85]
  simp only [hx, hz, hux, huz, he, ← EReal.coe_mul, csum, ← EReal.coe_add, cmax]
  rfl

theorem layer2_eq {x : FVec Ideal S1024x32x128 .f32} {u : FVec Ideal S128x128 .f32} {e : FVec Ideal S128 .f32}
    {w : Weights} {r : Fin 1024} {k : Fin 32} {X : Pt} {Z : Fin 128 → ℝ}
    (hx : ∀ i, x (ix3 r k i) = (h1 w X Z i : EReal)) (hu : ∀ i j, u (ix2 i j) = (w.sW2 i j : EReal)) (he : ∀ j, e (ix1 j) = (w.sb2 j : EReal))
    (j : Fin 128) : layer2 x u e (ix3 r k j) = (h2 w X Z j : EReal) := by
  pointwise [layer2]
  simp only [hx, hu, he, ← EReal.coe_mul, csum, ← EReal.coe_add, cmax]
  rfl

theorem layer3_eq {x : FVec Ideal S1024x32x128 .f32} {u : FVec Ideal S128x3 .f32} {e : FVec Ideal S3 .f32}
    {w : Weights} {b : Fin 8} {r : Fin 128} {k : Fin 32} {X : Pt} {Z : Fin 128 → ℝ}
    (hx : ∀ i, x (ix3 (at1 b r) k i) = (h2 w X Z i : EReal)) (hu : ∀ i j, u (ix2 i j) = (w.sW3 i j : EReal)) (he : ∀ j, e (ix1 j) = (w.sb3 j : EReal))
    (i : Fin 3) : layer3 x u e (ix4 b r k i) = (net w X Z i : EReal) := by
  unfold at1 at hx
  pointwise [layer3]
  simp only [hx, hu, he, ← EReal.coe_mul, csum, ← EReal.coe_add, cmax]
  rfl

theorem errors_eq {n s : FVec Ideal S8x128x32x3 .f32} {b : Fin 8} {r : Fin 128} {k : Fin 32} {i : Fin 3} {N S : ℝ}
    (hn : n (ix4 b r k i) = (N : EReal)) (hs : s (ix4 b r k i) = (S : EReal)) :
    errors n s (ix4 b r k i) = (((-1 * N - S) ^ 2 * 100 : ℝ) : EReal) := by
  pointwise [errors]
  rw [hn, hs, neg_one_eq, Cert.KernelIdeal.Own.two_eq, hundred_eq, ← EReal.coe_mul, ← EReal.coe_sub, pow_real, ← EReal.coe_mul]

theorem loss_eq {e : FVec Ideal S8x128x32x3 .f32} {E : Fin 8 → Fin 128 → Fin 32 → Fin 3 → ℝ}
    (h : ∀ b r k i, e (ix4 b r k i) = (E b r k i : EReal)) (z : S_.Idx) :
    loss e z = ((1 / 2 * ((∑ b, ∑ r, ∑ k, ∑ i, E b r k i) / 32768) : ℝ) : EReal) := by
  pointwise [loss]
  simp only [h, csum, count_eq, half_eq, div_real _ _ (by norm_num : (32768 : ℝ) ≠ 0), ← EReal.coe_mul]

/-- The terms of a block, summed by training point and neighbour. -/
theorem blockSum_eq (T : Fin 128 → Fin 32 → Pt) : blockSum T = ∑ r, ∑ k, ∑ i, T r k i := by
  unfold blockSum
  rw [← Equiv.sum_comp (finProdFinEquiv : Fin 32 × Fin 128 ≃ Fin (32 * 128)), Fintype.sum_prod_type, Finset.sum_comm]
  refine Finset.sum_congr rfl fun r _ => Finset.sum_congr rfl fun k _ => ?_
  have hr : (⟨(finProdFinEquiv (k, r)).val % 128, Nat.mod_lt _ (by norm_num)⟩ : Fin 128) = r := Fin.ext (by
    show (r.val + 128 * k.val) % 128 = r.val
    omega)
  have hk : (⟨(finProdFinEquiv (k, r)).val / 128, by omega⟩ : Fin 32) = k := Fin.ext (by
    show (r.val + 128 * k.val) / 128 = k.val
    omega)
  rw [hr, hk]

section

open Idealize.ShloMosaic.TcCoe

variable (m : (ℓ : Loc nD τ sig) → Buf (Elt Ideal) ℓ) (c : Dev nD)

/-- The reference's result, when its inputs are real numbers and its selected neighbours those at `o` and `cl`. -/
theorem value_eq {P C : Fin 8 → Fin 2048 → Pt} {w : Weights} {a : Fin 128 → Fin 2048} {o : Fin 8 → Fin 128 → Fin 32 → Fin 2048}
    {cl' : Fin 8 → Fin 128 → Fin 32 → Fin 4 → Fin 2048}
    (g0 : ∀ b n i, m (c.tc.loc main_arg0) (ix3 b n i) = (P b n i : EReal))
    (g1 : ∀ b n i, m (c.tc.loc main_arg1) (ix3 b n i) = (C b n i : EReal))
    (g2 : ∀ j, m (c.tc.loc main_arg2) (ix1 j) = BitVec.ofNat 32 (a j).val)
    (g3 : ∀ i j, m (c.tc.loc main_arg3) (ix2 i j) = (w.fW1 i j : EReal))
    (g4 : ∀ j, m (c.tc.loc main_arg4) (ix1 j) = (w.fb1 j : EReal))
    (g5 : ∀ i j, m (c.tc.loc main_arg5) (ix2 i j) = (w.fW2 i j : EReal))
    (g6 : ∀ j, m (c.tc.loc main_arg6) (ix1 j) = (w.fb2 j : EReal))
    (g7x : ∀ (i : Fin 3) j, m (c.tc.loc main_arg7) (ix2 ⟨i.val, by omega⟩ j) = (w.sWx i j : EReal))
    (g7z : ∀ (i : Fin 128) j, m (c.tc.loc main_arg7) (ix2 ⟨3 + i.val, by omega⟩ j) = (w.sWz i j : EReal))
    (g8 : ∀ j, m (c.tc.loc main_arg8) (ix1 j) = (w.sb1 j : EReal))
    (g9 : ∀ i j, m (c.tc.loc main_arg9) (ix2 i j) = (w.sW2 i j : EReal))
    (g10 : ∀ j, m (c.tc.loc main_arg10) (ix1 j) = (w.sb2 j : EReal))
    (g11 : ∀ i j, m (c.tc.loc main_arg11) (ix2 i j) = (w.sW3 i j : EReal))
    (g12 : ∀ j, m (c.tc.loc main_arg12) (ix1 j) = (w.sb3 j : EReal))
    (ho : ∀ b r k, (near0 (dist0 (q m c) (m (c.tc.loc main_arg0)))).2 (ix3 b r k) = BitVec.ofNat 32 (o b r k).val)
    (hc : ∀ b r k l, (near1 (dist1 (flat (fr m c)) (clouds (m (c.tc.loc main_arg1))))).2 (ix3 (at1 b r) k l)
      = BitVec.ofNat 32 (cl' b r k l).val) (z : S_.Idx) :
    Value.res_main_v111 (F := Ideal) m c z
      = (((∑ b, blockSum fun r k => term w (P b (a r)) (P b (o b r k)) fun l => C b (cl' b r k l)) * (50 / 32768) : ℝ) : EReal) := by
  have hq : ∀ b r i, q m c (ix3 b r i) = (P b (a r) i : EReal) := fun b r i => (centres_eq (g2 r) _ b i).trans (g0 b (a r) i)
  have hf : ∀ b r k i, fr m c (ix4 b r k i) = (P b (o b r k) i : EReal) := fun b r k i => (frames_eq (ho b r k) _ i).trans (g0 b _ i)
  have hcl : ∀ b r k l i, cl m c (ix4 (at1 b r) k l i) = (C b (cl' b r k l) i : EReal) := fun b r k l i =>
    ((cleans_eq (hc b r k l) _ i).trans (clouds_eq _ b r _ i)).trans (g1 b _ i)
  have hft : ∀ b r j, ft m c (ix3 b r j) = (feat w (P b (a r)) j : EReal) := fun b r j =>
    (picked_eq (g2 r) _ b j).trans (feats_eq (fun i => g0 b (a r) i) g3 g4 g5 g6 j)
  have hsc : ∀ b r k i, sc m c (ix4 b r k i) = (net w (fun i => P b (o b r k) i - P b (a r) i) (feat w (P b (a r))) i : EReal) := fun b r k i =>
    layer3_eq (fun j => layer2_eq (fun j => layer1_eq (fun i => about_eq (hf b r k i) (hq b r i)) (hft b r) g7x g7z g8 j) g9 g10 j) g11 g12 i
  have he : ∀ b r k i, errors (noise (fr m c) (cl m c)) (sc m c) (ix4 b r k i)
      = ((term w (P b (a r)) (P b (o b r k)) (fun l => C b (cl' b r k l)) i * 100 : ℝ) : EReal) := fun b r k i => by
    rw [errors_eq (noise_eq (hf b r k i) (fun l => hcl b r k l i)) (hsc b r k i)]
    refine congrArg (fun t : ℝ => (t : EReal)) ?_
    rw [term, Finset.sum_sub_distrib, Finset.sum_const, Finset.card_univ, Fintype.card_fin, nsmul_eq_mul]
    push_cast
    ring
  rw [res_eq, loss_eq he]
  refine congrArg (fun t : ℝ => (t : EReal)) ?_
  simp only [blockSum_eq, ← Finset.sum_mul]
  ring

end

end Cert.ReferenceIdeal.Own
-- ==== Proof.PreVal.lean ====
module

public import proofs.«01_k».proof.Proof.RefVal
public import proofs.«01_k».proof.Proof.Gen.Pre_no_ties

@[expose] public section

set_option maxRecDepth 16384

noncomputable section

/-! # What the precondition says -/

namespace Cert.ReferenceIdeal.Own

open Idealize.ShloMosaic Idealize.ShloMosaic.Pointwise Cert.ReferenceIdeal Cert.Model
open Cert.Pre_no_ties.Facts

/-- Which numbers of a tensor are finite. -/
def finite {s : Shape} (x : FVec Ideal s .f32) : IVec s 1 := fun i =>
  FloatOps.cmpf .olt (FloatOps.hostAbsf (x i)) (FloatOps.ofBits (F := Ideal) .f32 0x7F800000#32)

/-- Which positions lie inside a cloud of 2048 points. -/
def inside (i : IVec S128 32) : IVec S128 1 :=
  andi (cmpi .sge i (broadcastInDim S128 ![] bcast_S_S128 (constantI S_ 32 0#32)))
    (cmpi .slt i (broadcastInDim S128 ![] bcast_S_S128 (constantI S_ 32 2048#32)))

/-- Whether a frame point alone has the distance at which it was found: any other point of the cloud lies at another one. -/
def alone0 (d : FVec Ideal S8x128x2048 .f32) (e : FVec Ideal S8x128x32 .f32) (i : IVec S8x128x32 32) :
    IVec Cert.Pre_no_ties.S8x128x32x2048 1 :=
  ori (cmpf .une
      (broadcastInDim Cert.Pre_no_ties.S8x128x32x2048 ![0, 1, 2, 3] bcast_S8x128x1x2048_S8x128x32x2048_0_1_2_3
        (broadcastInDim Cert.Pre_no_ties.S8x128x1x2048 ![0, 1, 3] bcast_S8x128x2048_S8x128x1x2048_0_1_3 d))
      (broadcastInDim Cert.Pre_no_ties.S8x128x32x2048 ![0, 1, 2, 3] bcast_S8x128x32x1_S8x128x32x2048_0_1_2_3
        (broadcastInDim S8x128x32x1 ![0, 1, 2] bcast_S8x128x32_S8x128x32x1_0_1_2 (Host.negf e))))
    (cmpi .eq (iotaInDim Cert.Pre_no_ties.S8x128x32x2048 32 3)
      (broadcastInDim Cert.Pre_no_ties.S8x128x32x2048 ![0, 1, 2, 3] bcast_S8x128x32x1_S8x128x32x2048_0_1_2_3
        (broadcastInDim S8x128x32x1 ![0, 1, 2] bcast_S8x128x32_S8x128x32x1_0_1_2 i)))

/-- The same of the clean points found for every frame point. -/
def alone1 (d : FVec Ideal S1024x32x2048 .f32) (e : FVec Ideal S1024x32x4 .f32) (i : IVec S1024x32x4 32) :
    IVec Cert.Pre_no_ties.S1024x32x4x2048 1 :=
  ori (cmpf .une
      (broadcastInDim Cert.Pre_no_ties.S1024x32x4x2048 ![0, 1, 2, 3] bcast_S1024x32x1x2048_S1024x32x4x2048_0_1_2_3
        (broadcastInDim Cert.Pre_no_ties.S1024x32x1x2048 ![0, 1, 3] bcast_S1024x32x2048_S1024x32x1x2048_0_1_3 d))
      (broadcastInDim Cert.Pre_no_ties.S1024x32x4x2048 ![0, 1, 2, 3] bcast_S1024x32x4x1_S1024x32x4x2048_0_1_2_3
        (broadcastInDim S1024x32x4x1 ![0, 1, 2] bcast_S1024x32x4_S1024x32x4x1_0_1_2 (Host.negf e))))
    (cmpi .eq (iotaInDim Cert.Pre_no_ties.S1024x32x4x2048 32 3)
      (broadcastInDim Cert.Pre_no_ties.S1024x32x4x2048 ![0, 1, 2, 3] bcast_S1024x32x4x1_S1024x32x4x2048_0_1_2_3
        (broadcastInDim S1024x32x4x1 ![0, 1, 2] bcast_S1024x32x4_S1024x32x4x1_0_1_2 i)))

theorem ofBool_one {b : Bool} : BitVec.ofBool b = 1#1 ↔ b = true := by
  cases b <;> decide

/-- A pair of flags, one for the distance and one for the position, of which the second is down. -/
theorem ne_of_flags {u v : EReal} {n o : Fin 2048} {w : BitVec 32} {p q : ℝ}
    (h : BitVec.ofBool (decide (u ≠ -v)) ||| BitVec.ofBool (BitVec.ofNat 32 n.val == w) = 1#1)
    (hu : u = (p : EReal)) (hv : v = ((-q : ℝ) : EReal)) (hw : w = BitVec.ofNat 32 o.val) (hn : n ≠ o) : p ≠ q := by
  intro e
  have h1 : u = -v := by rw [hu, hv, e, EReal.coe_neg, neg_neg]
  have h2 : (BitVec.ofNat 32 n.val == w) = false := by
    rw [hw, beq_eq_false_iff_ne]
    intro h
    have h := congrArg BitVec.toNat h
    rw [BitVec.toNat_ofNat, BitVec.toNat_ofNat, Nat.mod_eq_of_lt (by omega), Nat.mod_eq_of_lt (by omega)] at h
    exact hn (Fin.ext h)
  rw [h2, decide_eq_false (not_not.mpr h1)] at h
  exact absurd h (by decide)

/-- A finite number is a real one. -/
theorem finite_real {s : Shape} {x : FVec Ideal s .f32} (h : finite x = fun _ => 1#1) (i : s.Idx) :
    x i = (((x i : EReal).toReal : ℝ) : EReal) := by
  have h := congrFun h i
  unfold finite at h
  replace h : BitVec.ofBool (decide (max (x i : EReal) (-(x i : EReal)) < Ideal.ofBits .f32 0x7F800000#32)) = 1#1 := h
  rw [Cert.KernelIdeal.Own.inf_eq, ofBool_one, decide_eq_true_eq, max_lt_iff] at h
  refine (EReal.coe_toReal h.1.ne fun e => ?_).symm
  rw [e] at h
  exact absurd h.2 (by simp)

/-- A position inside the cloud is the word of a point's number. -/
theorem inside_word {i : IVec S128 32} (h : inside i = fun _ => 1#1) (j : Fin 128) :
    ∃ a : Fin 2048, i (ix1 j) = BitVec.ofNat 32 a.val := by
  have h := congrFun h (ix1 j)
  replace h : BitVec.ofBool ((0#32).sle (i (ix1 j))) &&& BitVec.ofBool ((i (ix1 j)).slt 2048#32) = 1#1 := h
  generalize i (ix1 j) = w at h
  have h' : (0#32).sle w = true ∧ w.slt 2048#32 = true := by
    revert h
    cases (0#32).sle w <;> cases w.slt 2048#32 <;> simp
  rw [BitVec.sle_iff_toInt_le, BitVec.slt_iff_toInt_lt] at h'
  have e0 : (0#32).toInt = 0 := by decide
  have e1 : (2048#32).toInt = 2048 := by decide
  rw [e0, e1] at h'
  have hw : w.toInt = w.toNat := by
    have := BitVec.toInt_eq_toNat_cond w
    omega
  exact ⟨⟨w.toNat, by omega⟩, by simp⟩

/-- Where the flags hold, any other point lies at another distance than the frame point found. -/
theorem alone0_ne {d : FVec Ideal S8x128x2048 .f32} {e : FVec Ideal S8x128x32 .f32} {i : IVec S8x128x32 32}
    (h : alone0 d e i = fun _ => 1#1) {b : Fin 8} {r : Fin 128} {k : Fin 32} {n o : Fin 2048} {x y : ℝ}
    (hx : d (ix3 b r n) = (x : EReal)) (hy : e (ix3 b r k) = ((-y : ℝ) : EReal)) (ho : i (ix3 b r k) = BitVec.ofNat 32 o.val)
    (hn : n ≠ o) : x ≠ y := by
  have h := congrFun h (ix4 b r k n)
  pointwise [alone0] at h
  exact ne_of_flags h hx hy ho hn

variable (x0 x1 : FVec Ideal S8x2048x3 .f32) (x2 : IVec S128 32) (x3 : FVec Ideal S3x128 .f32) (x4 : FVec Ideal S128 .f32)
  (x5 : FVec Ideal S128x128 .f32) (x6 : FVec Ideal S128 .f32) (x7 : FVec Ideal S131x128 .f32) (x8 : FVec Ideal S128 .f32)
  (x9 : FVec Ideal S128x128 .f32) (x10 : FVec Ideal S128 .f32) (x11 : FVec Ideal S128x3 .f32) (x12 : FVec Ideal S3 .f32)

/-- Where the flags hold, any other point lies at another distance than the clean point found. -/
theorem alone1_ne {d : FVec Ideal S1024x32x2048 .f32} {e : FVec Ideal S1024x32x4 .f32} {i : IVec S1024x32x4 32}
    (h : alone1 d e i = fun _ => 1#1) {r : Fin 1024} {k : Fin 32} {l : Fin 4} {n o : Fin 2048} {x y : ℝ}
    (hx : d (ix3 r k n) = (x : EReal)) (hy : e (ix3 r k l) = ((-y : ℝ) : EReal)) (ho : i (ix3 r k l) = BitVec.ofNat 32 o.val)
    (hn : n ≠ o) : x ≠ y := by
  have h := congrFun h (ix4 r k l n)
  pointwise [alone1] at h
  exact ne_of_flags h hx hy ho hn

/-- What the precondition returns, part by part. -/
theorem pre_eq : Cert.Pre_no_ties.fn x0 x1 x2 x3 x4 x5 x6 x7 x8 x9 x10 x11 x12
    = (finite x0, finite x1, finite x3, finite x4, finite x5, finite x6, finite x7, finite x8, finite x9, finite x10, finite x11,
        finite x12, inside x2,
        alone0 (dist0 (centres x0 x2) x0) (near0 (dist0 (centres x0 x2) x0)).1 (near0 (dist0 (centres x0 x2) x0)).2,
        alone1 (dist1 (flat (frames x0 (near0 (dist0 (centres x0 x2) x0)).2)) (clouds x1))
          (near1 (dist1 (flat (frames x0 (near0 (dist0 (centres x0 x2) x0)).2)) (clouds x1))).1
          (near1 (dist1 (flat (frames x0 (near0 (dist0 (centres x0 x2) x0)).2)) (clouds x1))).2) := rfl

end Cert.ReferenceIdeal.Own
-- ==== Proof.Final.lean ====
module

public import proofs.«01_k».proof.Defs
public import proofs.«01_k».proof.Proof.KernelFrame
public import proofs.«01_k».proof.Proof.PreVal
public import proofs.«01_k».proof.Proof.Gen.ReferenceIdeal.Run

@[expose] public section

set_option maxRecDepth 16384

noncomputable section

/-! # The kernel and the reference return the same number -/

namespace Cert.ReferenceIdeal.Own

open Idealize.ShloMosaic Idealize.ShloMosaic.Pointwise Cert.ReferenceIdeal Cert.Model

/-- The points named by the reference's two searches are the nearest ones, in order and without ties. -/
theorem searches {x0 x1 : FVec Ideal S8x2048x3 .f32} {x2 : IVec S128 32} {P C : Fin 8 → Fin 2048 → Pt} {a : Fin 128 → Fin 2048}
    (h0 : ∀ b n i, x0 (ix3 b n i) = (P b n i : EReal)) (h1 : ∀ b n i, x1 (ix3 b n i) = (C b n i : EReal))
    (h2 : ∀ j, x2 (ix1 j) = BitVec.ofNat 32 (a j).val)
    (hf : alone0 (dist0 (centres x0 x2) x0) (near0 (dist0 (centres x0 x2) x0)).1 (near0 (dist0 (centres x0 x2) x0)).2 = fun _ => 1#1)
    (hg : alone1 (dist1 (flat (frames x0 (near0 (dist0 (centres x0 x2) x0)).2)) (clouds x1))
          (near1 (dist1 (flat (frames x0 (near0 (dist0 (centres x0 x2) x0)).2)) (clouds x1))).1
          (near1 (dist1 (flat (frames x0 (near0 (dist0 (centres x0 x2) x0)).2)) (clouds x1))).2 = fun _ => 1#1) :
    ∃ (o : Fin 8 → Fin 128 → Fin 32 → Fin 2048) (cl : Fin 8 → Fin 128 → Fin 32 → Fin 4 → Fin 2048),
      (∀ b r, Ordered (fun n => d2 (P b (a r)) (P b n)) (o b r))
      ∧ (∀ b r k, Ordered (fun n => d2 (P b (o b r k)) (C b n)) (cl b r k))
      ∧ (∀ b r k, (near0 (dist0 (centres x0 x2) x0)).2 (ix3 b r k) = BitVec.ofNat 32 (o b r k).val)
      ∧ ∀ b r k l, (near1 (dist1 (flat (frames x0 (near0 (dist0 (centres x0 x2) x0)).2)) (clouds x1))).2 (ix3 (at1 b r) k l)
          = BitVec.ofNat 32 (cl b r k l).val := by
  have hd0 : ∀ b r n, dist0 (centres x0 x2) x0 (ix3 b r n) = (d2 (P b (a r)) (P b n) : EReal) := fun b r n =>
    dist0_eq (fun i => (centres_eq (h2 r) x0 b i).trans (h0 b (a r) i)) (h0 b n)
  generalize dist0 (centres x0 x2) x0 = D0 at *
  choose o oinj ole oval oidx using fun b r => near0_eq (hd0 b r)
  have hd1 : ∀ b r k n, dist1 (flat (frames x0 (near0 D0).2)) (clouds x1) (ix3 (at1 b r) k n)
      = (d2 (P b (o b r k)) (C b n) : EReal) := fun b r k n =>
    dist1_eq (fun i => (flat_eq _ b r k i).trans ((frames_eq (oidx b r k) x0 i).trans (h0 b _ i)))
      (fun i => (clouds_eq x1 b r n i).trans (h1 b n i))
  generalize dist1 (flat (frames x0 (near0 D0).2)) (clouds x1) = D1 at *
  choose cl cinj cle cval cidx using fun b r k => near1_eq (hd1 b r k)
  refine ⟨o, cl, fun b r => ⟨oinj b r, fun k n hj hn => (ole b r k n hj).lt_of_ne ?_⟩,
    fun b r k => ⟨cinj b r k, fun l n hj hn => (cle b r k l n hj).lt_of_ne ?_⟩, oidx, cidx⟩
  · exact (alone0_ne hf (hd0 b r n) (oval b r k) (oidx b r k) hn).symm
  · exact (alone1_ne hg (hd1 b r k n) (cval b r k l) (cidx b r k l) hn).symm

end Cert.ReferenceIdeal.Own

namespace Cert.KernelIdeal.Own

open Idealize.ShloMosaic Idealize.ShloMosaic.Pointwise Idealize.ShloMosaic.TcCoe Cert.KernelIdeal Cert.Model

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The networks' weights, as real numbers. -/
def weights : Weights where
  fW1 i j := (m ((c : Thread nD τ).loc main_arg3) (ix2 i j) : EReal).toReal
  fb1 j := (m ((c : Thread nD τ).loc main_arg4) (ix1 j) : EReal).toReal
  fW2 i j := (m ((c : Thread nD τ).loc main_arg5) (ix2 i j) : EReal).toReal
  fb2 j := (m ((c : Thread nD τ).loc main_arg6) (ix1 j) : EReal).toReal
  sWx i j := (m ((c : Thread nD τ).loc main_arg7) (ix2 ⟨i.val, by omega⟩ j) : EReal).toReal
  sWz i j := (m ((c : Thread nD τ).loc main_arg7) (ix2 ⟨3 + i.val, by omega⟩ j) : EReal).toReal
  sb1 j := (m ((c : Thread nD τ).loc main_arg8) (ix1 j) : EReal).toReal
  sW2 i j := (m ((c : Thread nD τ).loc main_arg9) (ix2 i j) : EReal).toReal
  sb2 j := (m ((c : Thread nD τ).loc main_arg10) (ix1 j) : EReal).toReal
  sW3 i j := (m ((c : Thread nD τ).loc main_arg11) (ix2 i j) : EReal).toReal
  sb3 j := (m ((c : Thread nD τ).loc main_arg12) (ix1 j) : EReal).toReal

/-- The points of an argument, as real numbers. -/
def points (x : FVec Ideal S8x2048x3 .f32) : Fin 8 → Fin 2048 → Pt := fun b n i => (x (ix3 b n i) : EReal).toReal

/-- Under the precondition the kernel's total is the reference's result. -/
theorem same (hpre : Cert.Pre_KernelIdeal_no_ties m)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12))
    (z : Cert.ReferenceIdeal.S_.Idx) :
    Cert.ReferenceIdeal.Value.res_main_v111 (F := Ideal) m' c z = totalAt m c tLast (ValueIdx.ix2 0 0) := by
  obtain ⟨f0, f1, f3, f4, f5, f6, f7, f8, f9, f10, f11, f12, fi, fa, fb⟩ := hpre c
  rw [Cert.ReferenceIdeal.Own.pre_eq] at f0 f1 f3 f4 f5 f6 f7 f8 f9 f10 f11 f12 fi fa fb
  dsimp only at f0 f1 f3 f4 f5 f6 f7 f8 f9 f10 f11 f12 fi fa fb
  obtain ⟨e0, e1, e2, e3, e4, e5, e6, e7, e8, e9, e10, e11, e12⟩ := hagree c
  choose a ha using Cert.ReferenceIdeal.Own.inside_word fi
  have h0 : ∀ b n i, m ((c : Thread nD τ).loc main_arg0) (ix3 b n i) = (points (m ((c : Thread nD τ).loc main_arg0)) b n i : EReal) :=
    fun b n i => Cert.ReferenceIdeal.Own.finite_real f0 (ix3 b n i)
  have h1 : ∀ b n i, m ((c : Thread nD τ).loc main_arg1) (ix3 b n i) = (points (m ((c : Thread nD τ).loc main_arg1)) b n i : EReal) :=
    fun b n i => Cert.ReferenceIdeal.Own.finite_real f1 (ix3 b n i)
  obtain ⟨o, cl, ho, hc, io, ic⟩ := Cert.ReferenceIdeal.Own.searches h0 h1 ha fa fb
  have h3 : ∀ i j, m ((c : Thread nD τ).loc main_arg3) (ix2 i j) = ((weights m c).fW1 i j : EReal) :=
    fun i j => Cert.ReferenceIdeal.Own.finite_real f3 _
  have h4 : ∀ j, m ((c : Thread nD τ).loc main_arg4) (ix1 j) = ((weights m c).fb1 j : EReal) :=
    fun j => Cert.ReferenceIdeal.Own.finite_real f4 _
  have h5 : ∀ i j, m ((c : Thread nD τ).loc main_arg5) (ix2 i j) = ((weights m c).fW2 i j : EReal) :=
    fun i j => Cert.ReferenceIdeal.Own.finite_real f5 _
  have h6 : ∀ j, m ((c : Thread nD τ).loc main_arg6) (ix1 j) = ((weights m c).fb2 j : EReal) :=
    fun j => Cert.ReferenceIdeal.Own.finite_real f6 _
  have h7x : ∀ (i : Fin 3) (j : Fin 128), m ((c : Thread nD τ).loc main_arg7) (ix2 ⟨i.val, by omega⟩ j) = ((weights m c).sWx i j : EReal) :=
    fun i j => Cert.ReferenceIdeal.Own.finite_real f7 _
  have h7z : ∀ (i : Fin 128) (j : Fin 128), m ((c : Thread nD τ).loc main_arg7) (ix2 ⟨3 + i.val, by omega⟩ j) = ((weights m c).sWz i j : EReal) :=
    fun i j => Cert.ReferenceIdeal.Own.finite_real f7 _
  have h8 : ∀ j, m ((c : Thread nD τ).loc main_arg8) (ix1 j) = ((weights m c).sb1 j : EReal) :=
    fun j => Cert.ReferenceIdeal.Own.finite_real f8 _
  have h9 : ∀ i j, m ((c : Thread nD τ).loc main_arg9) (ix2 i j) = ((weights m c).sW2 i j : EReal) :=
    fun i j => Cert.ReferenceIdeal.Own.finite_real f9 _
  have h10 : ∀ j, m ((c : Thread nD τ).loc main_arg10) (ix1 j) = ((weights m c).sb2 j : EReal) :=
    fun j => Cert.ReferenceIdeal.Own.finite_real f10 _
  have h11 : ∀ i j, m ((c : Thread nD τ).loc main_arg11) (ix2 i j) = ((weights m c).sW3 i j : EReal) :=
    fun i j => Cert.ReferenceIdeal.Own.finite_real f11 _
  have h12 : ∀ j, m ((c : Thread nD τ).loc main_arg12) (ix1 j) = ((weights m c).sb3 j : EReal) :=
    fun j => Cert.ReferenceIdeal.Own.finite_real f12 _
  rw [total_eq m c h0 h1 ha h3 h4 h5 h6 h7x h7z h8 h9 h10 h11 h12 ho hc]
  refine Cert.ReferenceIdeal.Own.value_eq m' c (w := weights m c)
    (fun b n i => (congrFun e0 _).trans (h0 b n i))
    (fun b n i => (congrFun e1 _).trans (h1 b n i))
    (fun j => (congrFun e2 _).trans (ha j))
    (fun i j => (congrFun e3 _).trans (h3 i j))
    (fun j => (congrFun e4 _).trans (h4 j))
    (fun i j => (congrFun e5 _).trans (h5 i j))
    (fun j => (congrFun e6 _).trans (h6 j))
    (fun i j => (congrFun e7 _).trans (h7x i j))
    (fun i j => (congrFun e7 _).trans (h7z i j))
    (fun j => (congrFun e8 _).trans (h8 j))
    (fun i j => (congrFun e9 _).trans (h9 i j))
    (fun j => (congrFun e10 _).trans (h10 j))
    (fun i j => (congrFun e11 _).trans (h11 i j))
    (fun j => (congrFun e12 _).trans (h12 j))
    ?_ ?_ z
  · rw [Cert.ReferenceIdeal.Own.q, e0, e2]
    exact io
  · rw [Cert.ReferenceIdeal.Own.fr, Cert.ReferenceIdeal.Own.q, e0, e1, e2]
    exact ic

/-- The two programs return the same number on every input without ties. -/
theorem algebraic : Cert.algebraic_KernelIdeal_ReferenceIdeal_pre_no_ties := by
  intro m ρ m' ρ' hpre hagree
  refine ⟨fun c => fun _ => totalAt m c tLast (ValueIdx.ix2 0 0), run_value m ρ, ?_⟩
  exact (θ_run _ _ _).mono (fun _ h c => ⟨(h c).1.trans (funext fun z => same m m' c hpre hagree z), (h c).2⟩)
    (Cert.ReferenceIdeal.Value.run m' ρ')

end Cert.KernelIdeal.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_ties
public import proofs.«01_k».proof.Proof.Gen.ReferenceIdeal.Run
public import proofs.«01_k».proof.Proof.Final
public import Idealize.ShloMosaic.Adequacy
public import Idealize.ShloMosaic.Init

@[expose] public section

noncomputable section

namespace Cert.Proof

open Idealize.ShloMosaic Idealize.SL.Sem Cert.Kernel

/-- What the named constant stands for. -/
theorem preserves : Cert.preserves_Kernel_KernelIdeal :=
  IdealRules.named_const.statement Cert.KernelIdeal.κ "big" .f32 0x7F61B1E6#32 ⊤ rfl

theorem claim : Cert.Claim := ⟨Cert.Kernel.Gen.facts, Cert.KernelIdeal.Gen.facts, Cert.ReferenceIdeal.Gen.facts, Cert.Pre_no_ties.Gen.facts,
  Cert.Kernel.Own.quiet,
  fun m ρ _ => Cert.KernelIdeal.Own.quiet m ρ,
  fun m ρ _ => Cert.KernelIdeal.Own.quiet m ρ,
  fun m ρ _ => (θ_run _ _ _).mono (fun r h => ⟨fun c => (h c).2, Idealize.ShloMosaic.sem_eq_zero_of_no_sems (by decide) r.2⟩) (Cert.ReferenceIdeal.Value.run m ρ),
  fun m ρ _ => (θ_run _ _ _).mono (fun r h => ⟨fun c => (h c).2, Idealize.ShloMosaic.sem_eq_zero_of_no_sems (by decide) r.2⟩) (Cert.ReferenceIdeal.Value.run m ρ),
  preserves,
  Cert.KernelIdeal.Own.algebraic⟩

end Cert.Proof

end
